-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_comparable [hPre_comparable : Cert.Pre_comparable.Facts] (m : (ℓ : Loc Cert.KernelIdeal.nD Cert.KernelIdeal.τ Cert.KernelIdeal.sig) → Buf (Elt Ideal) ℓ) : Prop :=
  ∀ c : Dev Cert.KernelIdeal.nD,
    (Cert.Pre_comparable.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 = (fun _ => 1#1)
    ∧ (Cert.Pre_comparable.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_comparable [hPre_comparable : Cert.Pre_comparable.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_comparable.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).1 = (fun _ => 1#1)
    ∧ (Cert.Pre_comparable.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_comparable [hKernelIdeal : Cert.KernelIdeal.Facts] [hPre_comparable : Cert.Pre_comparable.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_comparable m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_comparable [hReferenceIdeal : Cert.ReferenceIdeal.Facts] [hPre_comparable : Cert.Pre_comparable.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_comparable m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  IdealRules.named_const.Statement Cert.KernelIdeal.κ "c1" .f32 0x3D122279#32 ((80338380498831 / 2251799813685248 : ℝ) : EReal)

def algebraic_KernelIdeal_ReferenceIdeal_pre_comparable [hKernelIdeal : Cert.KernelIdeal.Facts] [hReferenceIdeal : Cert.ReferenceIdeal.Facts] [hPre_comparable : Cert.Pre_comparable.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_comparable m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v80) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_comparable : Cert.Pre_comparable.Facts),
    quiescent_Kernel (hKernel := hKernel)
    ∧ quiescent_KernelIdeal (hKernelIdeal := hKernelIdeal)
    ∧ quiescent_KernelIdeal_pre_comparable (hKernelIdeal := hKernelIdeal) (hPre_comparable := hPre_comparable)
    ∧ quiescent_ReferenceIdeal (hReferenceIdeal := hReferenceIdeal)
    ∧ quiescent_ReferenceIdeal_pre_comparable (hReferenceIdeal := hReferenceIdeal) (hPre_comparable := hPre_comparable)
    ∧ preserves_Kernel_KernelIdeal
    ∧ algebraic_KernelIdeal_ReferenceIdeal_pre_comparable (hKernelIdeal := hKernelIdeal) (hReferenceIdeal := hReferenceIdeal) (hPre_comparable := hPre_comparable)
-- ==== Pre_comparable.lean ====
abbrev S4x8192x1024 : Shape := ⟨3, ![4, 8192, 1024]⟩
abbrev S_ : Shape := ⟨0, ![]⟩
abbrev S512x1024 : Shape := ⟨2, ![512, 1024]⟩
abbrev S512 : Shape := ⟨1, ![512]⟩
abbrev S32768x1024 : Shape := ⟨2, ![32768, 1024]⟩
abbrev S1024 : Shape := ⟨1, ![1024]⟩

class Facts : Prop where
  bcast_S_S4x8192x1024 : S_.BroadcastsInDim S4x8192x1024 (![] : Fin 0 → Fin S4x8192x1024.rank)
  shapeCasts_S4x8192x1024_S32768x1024 : S4x8192x1024.ShapeCasts S32768x1024
  reducesTo_S32768x1024_S1024_d0 : S32768x1024.ReducesTo [0] S1024
  h_S_ : 0 < S_.numel
  bcast_S_S1024 : S_.BroadcastsInDim S1024 (![] : Fin 0 → Fin S1024.rank)
  reducesTo_S1024_S_d0 : S1024.ReducesTo [0] S_

variable [Facts]

def fn_norm {F : FTy → Type} [FloatOps F] (arg0 : FVec F S1024 .f32) : FVec F S_ .f32 :=
  let v0 : FVec F S1024 .f32 := mulf arg0 arg0
  let cst : FVec F S_ .f32 := constant S_ .f32 0x00000000#32
  let v1 : FVec F S_ .f32 := (fun x v => Host.reduceAdd x v reducesTo_S1024_S_d0 h_S_) v0 cst
  let v2 : FVec F S_ .f32 := Host.sqrt v1
  v2

def fn_part1 {F : FTy → Type} [FloatOps F] (main_arg0 : FVec F S4x8192x1024 .f32) (main_v17 : FVec F S_ .f32) : IVec S4x8192x1024 1 × IVec S_ 1 :=
  let main_cst_5 : FVec F S_ .f32 := constant S_ .f32 0xFF800000#32
  let main_v18 : FVec F S4x8192x1024 .f32 := broadcastInDim S4x8192x1024 ![] bcast_S_S4x8192x1024 main_cst_5
  let main_v19 : IVec S4x8192x1024 1 := cmpf .ogt main_arg0 main_v18
  let main_cst_6 : FVec F S_ .f32 := constant S_ .f32 0x00000000#32
  let main_v20 : IVec S_ 1 := cmpf .oeq main_v17 main_cst_6
  let main_cst_7 : FVec F S_ .f32 := constant S_ .f32 0x2B8CBCCC#32
  let main_v21 : IVec S_ 1 := cmpf .oge main_v17 main_cst_7
  let main_v22 : IVec S_ 1 := ori main_v20 main_v21
  (main_v19, main_v22)

def fn {F : FTy → Type} [FloatOps F] (main_arg0 : FVec F S4x8192x1024 .f32) (main_arg1 : FVec F S_ .f32) (main_arg2 : FVec F S_ .f32) (main_arg3 : FVec F S512x1024 .f32) (main_arg4 : FVec F S512 .f32) (main_arg5 : IVec S512 1) : IVec S4x8192x1024 1 × IVec S_ 1 :=
  let main_cst : FVec F S_ .f32 := constant S_ .f32 0x3F000000#32
  let main_v0 : FVec F S4x8192x1024 .f32 := broadcastInDim S4x8192x1024 ![] bcast_S_S4x8192x1024 main_cst
  let main_v1 : FVec F S4x8192x1024 .f32 := mulf main_v0 main_arg0
  let main_v2 : FVec F S4x8192x1024 .f32 := mulf main_arg0 main_arg0
  let main_v3 : FVec F S4x8192x1024 .f32 := mulf main_v2 main_arg0
  let main_cst_0 : FVec F S_ .f32 := constant S_ .f32 0x3D372713#32
  let main_v4 : FVec F S4x8192x1024 .f32 := broadcastInDim S4x8192x1024 ![] bcast_S_S4x8192x1024 main_cst_0
  let main_v5 : FVec F S4x8192x1024 .f32 := mulf main_v4 main_v3
  let main_v6 : FVec F S4x8192x1024 .f32 := addf main_arg0 main_v5
  let main_cst_1 : FVec F S_ .f32 := constant S_ .f32 0x3F4C422A#32
  let main_v7 : FVec F S4x8192x1024 .f32 := broadcastInDim S4x8192x1024 ![] bcast_S_S4x8192x1024 main_cst_1
  let main_v8 : FVec F S4x8192x1024 .f32 := mulf main_v7 main_v6
  let main_v9 : FVec F S4x8192x1024 .f32 := Host.tanh main_v8
  let main_cst_2 : FVec F S_ .f32 := constant S_ .f32 0x3F800000#32
  let main_v10 : FVec F S4x8192x1024 .f32 := broadcastInDim S4x8192x1024 ![] bcast_S_S4x8192x1024 main_cst_2
  let main_v11 : FVec F S4x8192x1024 .f32 := addf main_v10 main_v9
  let main_v12 : FVec F S4x8192x1024 .f32 := mulf main_v1 main_v11
  let main_v13 : FVec F S32768x1024 .f32 := shapeCast S32768x1024 main_v12 shapeCasts_S4x8192x1024_S32768x1024
  let main_cst_3 : FVec F S_ .f32 := constant S_ .f32 0x00000000#32
  let main_v14 : FVec F S1024 .f32 := (fun x v => Host.reduceAdd x v reducesTo_S32768x1024_S1024_d0 h_S_) main_v13 main_cst_3
  let main_cst_4 : FVec F S_ .f32 := constant S_ .f32 0x47000000#32
  let main_v15 : FVec F S1024 .f32 := broadcastInDim S1024 ![] bcast_S_S1024 main_cst_4
  let main_v16 : FVec F S1024 .f32 := Host.divf main_v14 main_v15
  let main_v17 : FVec F S_ .f32 := fn_norm (F := F) main_v16
  fn_part1 (F := F) main_arg0 main_v17
-- ==== Kernel.lean ====
abbrev S4x8192x1024 : Shape := ⟨3, ![4, 8192, 1024]⟩
abbrev S_ : Shape := ⟨0, ![]⟩
abbrev S512x1024 : Shape := ⟨2, ![512, 1024]⟩
abbrev S512 : Shape := ⟨1, ![512]⟩
abbrev S32768x1024 : Shape := ⟨2, ![32768, 1024]⟩
abbrev S512x1 : Shape := ⟨2, ![512, 1]⟩
abbrev S1x1 : Shape := ⟨2, ![1, 1]⟩
abbrev S1024x1024 : Shape := ⟨2, ![1024, 1024]⟩
abbrev S1x1024 : Shape := ⟨2, ![1, 1024]⟩
abbrev S1x1x1024 : Shape := ⟨3, ![1, 1, 1024]⟩
abbrev S1 : Shape := ⟨1, ![1]⟩
abbrev S1x1x1 : Shape := ⟨3, ![1, 1, 1]⟩
abbrev S1x512x1 : Shape := ⟨3, ![1, 512, 1]⟩

abbrev nBuf : Space → Nat
  | .hbm => 15
  | .vmem => 10
  | .smem => 4
  | _ => 0

abbrev bufTy : (tb : Table) → Fin (tcTables nBuf tb) → BufTy
  | .hbm, ⟨0, _⟩ => ⟨S4x8192x1024, .f32⟩
  | .hbm, ⟨1, _⟩ => ⟨S_, .f32⟩
  | .hbm, ⟨2, _⟩ => ⟨S_, .f32⟩
  | .hbm, ⟨3, _⟩ => ⟨S512x1024, .f32⟩
  | .hbm, ⟨4, _⟩ => ⟨S512, .f32⟩
  | .hbm, ⟨5, _⟩ => ⟨S512, .i1⟩
  | .hbm, ⟨6, _⟩ => ⟨S32768x1024, .f32⟩
  | .hbm, ⟨7, _⟩ => ⟨S512, .f32⟩
  | .hbm, ⟨8, _⟩ => ⟨S512x1, .f32⟩
  | .hbm, ⟨9, _⟩ => ⟨S512x1, .f32⟩
  | .hbm, ⟨10, _⟩ => ⟨S1x1, .f32⟩
  | .hbm, ⟨11, _⟩ => ⟨S1x1, .f32⟩
  | .hbm, ⟨12, _⟩ => ⟨S1x1, .f32⟩
  | .hbm, ⟨13, _⟩ => ⟨S32768x1024, .f32⟩
  | .hbm, ⟨14, _⟩ => ⟨S4x8192x1024, .f32⟩
  | .local _ .vmem, ⟨0, _⟩ => ⟨S1024x1024, .f32⟩
  | .local _ .vmem, ⟨1, _⟩ => ⟨S1024x1024, .f32⟩
  | .local _ .vmem, ⟨2, _⟩ => ⟨S512x1024, .f32⟩
  | .local _ .vmem, ⟨3, _⟩ => ⟨S512x1, .f32⟩
  | .local _ .vmem, ⟨4, _⟩ => ⟨S512x1, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .f32⟩
  | .local _ .smem, ⟨0, _⟩ => ⟨S1x1, .f32⟩
  | .local _ .smem, ⟨1, _⟩ => ⟨S1x1, .f32⟩
  | .local _ .smem, ⟨2, _⟩ => ⟨S1x1, .f32⟩
  | .local _ .smem, ⟨3, _⟩ => ⟨S1x1, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .smem, ⟨0, _⟩ => true
  | .smem, ⟨1, _⟩ => true
  | .smem, ⟨2, _⟩ => true
  | .smem, ⟨3, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_scratch0 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg2_0 : Ref sig .tc := ⟨.vmem, 8, rfl⟩
abbrev cc1_stg2_1 : Ref sig .tc := ⟨.vmem, 9, rfl⟩
abbrev cc0_stg4_0 : Ref sig .tc := ⟨.smem, 0, rfl⟩
abbrev cc0_stg5_0 : Ref sig .tc := ⟨.smem, 1, rfl⟩
abbrev cc0_stg6_0 : Ref sig .tc := ⟨.smem, 2, rfl⟩
abbrev cc1_stg1_0 : Ref sig .tc := ⟨.smem, 3, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem2_1 : DmaSem sig := 12

abbrev nD : Nat := 1
abbrev τ : Topo := Topo.v7x

variable {F : FTy → Type} [FloatOps F]

abbrev grid0 : Pipeline.Grid := ⟨1, ![32], ![false]⟩

def k0_cond3 (i : grid0.Coords) : BitVec 1 :=
  let arg0 : BitVec 32 := BitVec.ofNat 32 (i 0).val
  let c31_i32 : BitVec 32 := 31#32
  let v22 : BitVec 1 := Scalar.cmpi .eq arg0 c31_i32
  let v23 : BitVec 32 := Scalar.extui v22
  let c0_i32_8 : BitVec 32 := 0#32
  let v24 : BitVec 1 := Scalar.cmpi .ne v23 c0_i32_8
  v24

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .smem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .smem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .smem S1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1024x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .smem S1x1 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S1024x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]
-- ==== KernelIdeal.lean ====
variable {F : FTy → Type} [FloatOps F] [Named F]
def κ : String → Option EReal := fun
  | "c1" => some ((80338380498831 / 2251799813685248 : ℝ) : EReal)
  | _ => none
-- ==== ReferenceIdeal.lean ====
abbrev S4x8192x1024 : Shape := ⟨3, ![4, 8192, 1024]⟩
abbrev S_ : Shape := ⟨0, ![]⟩
abbrev S512x1024 : Shape := ⟨2, ![512, 1024]⟩
abbrev S512 : Shape := ⟨1, ![512]⟩
abbrev S32768x1024 : Shape := ⟨2, ![32768, 1024]⟩
abbrev S1024 : Shape := ⟨1, ![1024]⟩
abbrev S1 : Shape := ⟨1, ![1]⟩

abbrev nBuf : Space → Nat
  | .hbm => 141
  | .vmem => 0
  | .smem => 0
  | _ => 0

abbrev hbmTy0_0 (i : Nat) : BufTy := match i % 128 with
  | 0 => ⟨S4x8192x1024, .f32⟩
  | 1 => ⟨S_, .f32⟩
  | 2 => ⟨S_, .f32⟩
  | 3 => ⟨S512x1024, .f32⟩
  | 4 => ⟨S512, .f32⟩
  | 5 => ⟨S512, .i1⟩
  | 6 => ⟨S_, .f32⟩
  | 7 => ⟨S_, .f32⟩
  | 8 => ⟨S_, .f32⟩
  | 9 => ⟨S_, .f32⟩
  | 10 => ⟨S_, .f32⟩
  | 11 => ⟨S_, .f32⟩
  | 12 => ⟨S_, .f32⟩
  | 13 => ⟨S_, .f32⟩
  | 14 => ⟨S_, .f32⟩
  | 15 => ⟨S_, .f32⟩
  | 16 => ⟨S_, .f32⟩
  | 17 => ⟨S_, .f32⟩
  | 18 => ⟨S_, .f32⟩
  | 19 => ⟨S_, .f32⟩
  | 20 => ⟨S_, .f32⟩
  | 21 => ⟨S4x8192x1024, .f32⟩
  | 22 => ⟨S4x8192x1024, .f32⟩
  | 23 => ⟨S4x8192x1024, .f32⟩
  | 24 => ⟨S4x8192x1024, .f32⟩
  | 25 => ⟨S_, .f32⟩
  | 26 => ⟨S4x8192x1024, .f32⟩
  | 27 => ⟨S4x8192x1024, .f32⟩
  | 28 => ⟨S4x8192x1024, .f32⟩
  | 29 => ⟨S_, .f32⟩
  | 30 => ⟨S4x8192x1024, .f32⟩
  | 31 => ⟨S4x8192x1024, .f32⟩
  | 32 => ⟨S4x8192x1024, .f32⟩
  | 33 => ⟨S_, .f32⟩
  | 34 => ⟨S4x8192x1024, .f32⟩
  | 35 => ⟨S4x8192x1024, .f32⟩
  | 36 => ⟨S4x8192x1024, .f32⟩
  | 37 => ⟨S32768x1024, .f32⟩
  | 38 => ⟨S_, .f32⟩
  | 39 => ⟨S1024, .f32⟩
  | 40 => ⟨S_, .f32⟩
  | 41 => ⟨S1024, .f32⟩
  | 42 => ⟨S1024, .f32⟩
  | 43 => ⟨S1024, .f32⟩
  | 44 => ⟨S_, .f32⟩
  | 45 => ⟨S_, .f32⟩
  | 46 => ⟨S_, .f32⟩
  | 47 => ⟨S_, .f32⟩
  | 48 => ⟨S_, .f32⟩
  | 49 => ⟨S1024, .f32⟩
  | 50 => ⟨S1024, .f32⟩
  | 51 => ⟨S512, .f32⟩
  | 52 => ⟨S_, .f32⟩
  | 53 => ⟨S_, .f32⟩
  | 54 => ⟨S512, .f32⟩
  | 55 => ⟨S512, .f32⟩
  | 56 => ⟨S512, .i32⟩
  | 57 => ⟨S_, .f32⟩
  | 58 => ⟨S_, .i32⟩
  | 59 => ⟨S_, .f32⟩
  | 60 => ⟨S_, .i32⟩
  | 61 => ⟨S_, .i32⟩
  | 62 => ⟨S_, .i1⟩
  | 63 => ⟨S_, .i32⟩
  | 64 => ⟨S_, .i32⟩
  | 65 => ⟨S_, .i32⟩
  | 66 => ⟨S1, .f32⟩
  | 67 => ⟨S_, .f32⟩
  | 68 => ⟨S512, .i32⟩
  | 69 => ⟨S_, .i32⟩
  | 70 => ⟨S_, .i32⟩
  | 71 => ⟨S_, .f32⟩
  | 72 => ⟨S_, .f32⟩
  | 73 => ⟨S512, .f32⟩
  | 74 => ⟨S512, .f32⟩
  | 75 => ⟨S_, .f32⟩
  | 76 => ⟨S_, .f32⟩
  | 77 => ⟨S_, .i32⟩
  | 78 => ⟨S_, .i1⟩
  | 79 => ⟨S_, .i32⟩
  | 80 => ⟨S_, .i32⟩
  | 81 => ⟨S_, .i32⟩
  | 82 => ⟨S1, .f32⟩
  | 83 => ⟨S_, .f32⟩
  | 84 => ⟨S_, .f32⟩
  | 85 => ⟨S_, .i32⟩
  | 86 => ⟨S_, .i32⟩
  | 87 => ⟨S_, .i32⟩
  | 88 => ⟨S_, .i32⟩
  | 89 => ⟨S_, .f32⟩
  | 90 => ⟨S_, .f32⟩
  | 91 => ⟨S_, .i32⟩
  | 92 => ⟨S_, .i1⟩
  | 93 => ⟨S_, .f32⟩
  | 94 => ⟨S_, .f32⟩
  | 95 => ⟨S_, .f32⟩
  | 96 => ⟨S_, .f32⟩
  | 97 => ⟨S_, .i1⟩
  | 98 => ⟨S_, .f32⟩
  | 99 => ⟨S_, .f32⟩
  | 100 => ⟨S_, .f32⟩
  | 101 => ⟨S_, .f32⟩
  | 102 => ⟨S_, .i32⟩
  | 103 => ⟨S_, .i1⟩
  | 104 => ⟨S_, .i32⟩
  | 105 => ⟨S_, .i32⟩
  | 106 => ⟨S_, .i32⟩
  | 107 => ⟨S1, .f32⟩
  | 108 => ⟨S_, .f32⟩
  | 109 => ⟨S_, .f32⟩
  | 110 => ⟨S_, .i32⟩
  | 111 => ⟨S_, .i1⟩
  | 112 => ⟨S_, .i32⟩
  | 113 => ⟨S_, .i32⟩
  | 114 => ⟨S_, .i32⟩
  | 115 => ⟨S1, .i32⟩
  | 116 => ⟨S512, .f32⟩
  | 117 => ⟨S_, .i32⟩
  | 118 => ⟨S_, .i1⟩
  | 119 => ⟨S_, .i32⟩
  | 120 => ⟨S_, .i32⟩
  | 121 => ⟨S_, .i32⟩
  | 122 => ⟨S1, .f32⟩
  | 123 => ⟨S_, .f32⟩
  | 124 => ⟨S_, .f32⟩
  | 125 => ⟨S_, .f32⟩
  | 126 => ⟨S_, .f32⟩
  | 127 => ⟨S_, .f32⟩
  | _ => ⟨S4x8192x1024, .f32⟩

abbrev hbmTy0_1 (i : Nat) : BufTy := match i % 128 with
  | 0 => ⟨S_, .f32⟩
  | 1 => ⟨S_, .f32⟩
  | 2 => ⟨S_, .f32⟩
  | 3 => ⟨S_, .f32⟩
  | 4 => ⟨S_, .f32⟩
  | 5 => ⟨S_, .f32⟩
  | 6 => ⟨S_, .f32⟩
  | 7 => ⟨S_, .f32⟩
  | 8 => ⟨S_, .f32⟩
  | 9 => ⟨S_, .f32⟩
  | 10 => ⟨S_, .f32⟩
  | 11 => ⟨S4x8192x1024, .f32⟩
  | 12 => ⟨S4x8192x1024, .f32⟩
  | _ => ⟨S4x8192x1024, .f32⟩

abbrev hbmTy (i : Nat) : BufTy := match i / 128 with
  | 0 => hbmTy0_0 i
  | 1 => hbmTy0_1 i
  | _ => ⟨S4x8192x1024, .f32⟩

abbrev bufTy : (tb : Table) → Fin (tcTables nBuf tb) → BufTy
  | .hbm, ⟨i, _⟩ => hbmTy i
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_cst_0 : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_v1 : Ref sig .tc := ⟨.hbm, 12, rfl⟩
abbrev main_v2 : Ref sig .tc := ⟨.hbm, 13, rfl⟩
abbrev main_cst_1 : Ref sig .tc := ⟨.hbm, 14, rfl⟩
abbrev main_cst_2 : Ref sig .tc := ⟨.hbm, 15, rfl⟩
abbrev main_call1_v0 : Ref sig .tc := ⟨.hbm, 16, rfl⟩
abbrev main_call1_v1 : Ref sig .tc := ⟨.hbm, 17, rfl⟩
abbrev main_call1_v2 : Ref sig .tc := ⟨.hbm, 18, rfl⟩
abbrev main_v3 : Ref sig .tc := ⟨.hbm, 19, rfl⟩
abbrev main_cst_3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_cst_4 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_cst_5 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_cst_6 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_cst_7 : Ref sig .tc := ⟨.hbm, 38, rfl⟩
abbrev main_v18 : Ref sig .tc := ⟨.hbm, 39, rfl⟩
abbrev main_cst_8 : Ref sig .tc := ⟨.hbm, 40, rfl⟩
abbrev main_v19 : Ref sig .tc := ⟨.hbm, 41, rfl⟩
abbrev main_v20 : Ref sig .tc := ⟨.hbm, 42, rfl⟩
abbrev main_call2_v0 : Ref sig .tc := ⟨.hbm, 43, rfl⟩
abbrev main_call2_cst : Ref sig .tc := ⟨.hbm, 44, rfl⟩
abbrev main_call2_v1 : Ref sig .tc := ⟨.hbm, 45, rfl⟩
abbrev main_v21 : Ref sig .tc := ⟨.hbm, 46, rfl⟩
abbrev main_cst_9 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_cst_10 : Ref sig .tc := ⟨.hbm, 52, rfl⟩
abbrev main_call3_v0 : Ref sig .tc := ⟨.hbm, 53, rfl⟩
abbrev main_call3_v1 : Ref sig .tc := ⟨.hbm, 54, rfl⟩
abbrev main_v26 : Ref sig .tc := ⟨.hbm, 55, rfl⟩
abbrev main_call4_v0 : Ref sig .tc := ⟨.hbm, 56, rfl⟩
abbrev main_call4_cst : Ref sig .tc := ⟨.hbm, 57, rfl⟩
abbrev main_call4_c : Ref sig .tc := ⟨.hbm, 58, rfl⟩
abbrev main_call4_v1_0 : Ref sig .tc := ⟨.hbm, 59, rfl⟩
abbrev main_v27 : Ref sig .tc := ⟨.hbm, 60, rfl⟩
abbrev main_c : Ref sig .tc := ⟨.hbm, 61, rfl⟩
abbrev main_v28 : Ref sig .tc := ⟨.hbm, 62, rfl⟩
abbrev main_c_11 : Ref sig .tc := ⟨.hbm, 63, rfl⟩
abbrev main_v29 : Ref sig .tc := ⟨.hbm, 64, rfl⟩
abbrev main_v30 : Ref sig .tc := ⟨.hbm, 65, rfl⟩
abbrev main_v31 : Ref sig .tc := ⟨.hbm, 66, rfl⟩
abbrev main_v32 : Ref sig .tc := ⟨.hbm, 67, rfl⟩
abbrev main_v33 : Ref sig .tc := ⟨.hbm, 68, rfl⟩
abbrev main_c_12 : Ref sig .tc := ⟨.hbm, 69, rfl⟩
abbrev main_v34 : Ref sig .tc := ⟨.hbm, 70, rfl⟩
abbrev main_cst_13 : Ref sig .tc := ⟨.hbm, 71, rfl⟩
abbrev main_call5_v0 : Ref sig .tc := ⟨.hbm, 72, rfl⟩
abbrev main_call5_v1 : Ref sig .tc := ⟨.hbm, 73, rfl⟩
abbrev main_v35 : Ref sig .tc := ⟨.hbm, 74, rfl⟩
abbrev main_cst_14 : Ref sig .tc := ⟨.hbm, 75, rfl⟩
abbrev main_v36 : Ref sig .tc := ⟨.hbm, 76, rfl⟩
abbrev main_c_15 : Ref sig .tc := ⟨.hbm, 77, rfl⟩
abbrev main_v37 : Ref sig .tc := ⟨.hbm, 78, rfl⟩
abbrev main_c_16 : Ref sig .tc := ⟨.hbm, 79, rfl⟩
abbrev main_v38 : Ref sig .tc := ⟨.hbm, 80, rfl⟩
abbrev main_v39 : Ref sig .tc := ⟨.hbm, 81, rfl⟩
abbrev main_v40 : Ref sig .tc := ⟨.hbm, 82, rfl⟩
abbrev main_v41 : Ref sig .tc := ⟨.hbm, 83, rfl⟩
abbrev main_v42 : Ref sig .tc := ⟨.hbm, 84, rfl⟩
abbrev main_c_17 : Ref sig .tc := ⟨.hbm, 85, rfl⟩
abbrev main_v43 : Ref sig .tc := ⟨.hbm, 86, rfl⟩
abbrev main_c_18 : Ref sig .tc := ⟨.hbm, 87, rfl⟩
abbrev main_v44 : Ref sig .tc := ⟨.hbm, 88, rfl⟩
abbrev main_v45 : Ref sig .tc := ⟨.hbm, 89, rfl⟩
abbrev main_v46 : Ref sig .tc := ⟨.hbm, 90, rfl⟩
abbrev main_c_19 : Ref sig .tc := ⟨.hbm, 91, rfl⟩
abbrev main_v47 : Ref sig .tc := ⟨.hbm, 92, rfl⟩
abbrev main_v48 : Ref sig .tc := ⟨.hbm, 93, rfl⟩
abbrev main_cst_20 : Ref sig .tc := ⟨.hbm, 94, rfl⟩
abbrev main_v49 : Ref sig .tc := ⟨.hbm, 95, rfl⟩
abbrev main_cst_21 : Ref sig .tc := ⟨.hbm, 96, rfl⟩
abbrev main_v50 : Ref sig .tc := ⟨.hbm, 97, rfl⟩
abbrev main_cst_22 : Ref sig .tc := ⟨.hbm, 98, rfl⟩
abbrev main_cst_23 : Ref sig .tc := ⟨.hbm, 99, rfl⟩
abbrev main_v51 : Ref sig .tc := ⟨.hbm, 100, rfl⟩
abbrev main_v52 : Ref sig .tc := ⟨.hbm, 101, rfl⟩
abbrev main_c_24 : Ref sig .tc := ⟨.hbm, 102, rfl⟩
abbrev main_v53 : Ref sig .tc := ⟨.hbm, 103, rfl⟩
abbrev main_c_25 : Ref sig .tc := ⟨.hbm, 104, rfl⟩
abbrev main_v54 : Ref sig .tc := ⟨.hbm, 105, rfl⟩
abbrev main_v55 : Ref sig .tc := ⟨.hbm, 106, rfl⟩
abbrev main_v56 : Ref sig .tc := ⟨.hbm, 107, rfl⟩
abbrev main_v57 : Ref sig .tc := ⟨.hbm, 108, rfl⟩
abbrev main_v58 : Ref sig .tc := ⟨.hbm, 109, rfl⟩
abbrev main_c_26 : Ref sig .tc := ⟨.hbm, 110, rfl⟩
abbrev main_v59 : Ref sig .tc := ⟨.hbm, 111, rfl⟩
abbrev main_c_27 : Ref sig .tc := ⟨.hbm, 112, rfl⟩
abbrev main_v60 : Ref sig .tc := ⟨.hbm, 113, rfl⟩
abbrev main_v61 : Ref sig .tc := ⟨.hbm, 114, rfl⟩
abbrev main_v62 : Ref sig .tc := ⟨.hbm, 115, rfl⟩
abbrev main_v63 : Ref sig .tc := ⟨.hbm, 116, rfl⟩
abbrev main_c_28 : Ref sig .tc := ⟨.hbm, 117, rfl⟩
abbrev main_v64 : Ref sig .tc := ⟨.hbm, 118, rfl⟩
abbrev main_c_29 : Ref sig .tc := ⟨.hbm, 119, rfl⟩
abbrev main_v65 : Ref sig .tc := ⟨.hbm, 120, rfl⟩
abbrev main_v66 : Ref sig .tc := ⟨.hbm, 121, rfl⟩
abbrev main_v67 : Ref sig .tc := ⟨.hbm, 122, rfl⟩
abbrev main_v68 : Ref sig .tc := ⟨.hbm, 123, rfl⟩
abbrev main_v69 : Ref sig .tc := ⟨.hbm, 124, rfl⟩
abbrev main_v70 : Ref sig .tc := ⟨.hbm, 125, rfl⟩
abbrev main_v71 : Ref sig .tc := ⟨.hbm, 126, rfl⟩
abbrev main_cst_30 : Ref sig .tc := ⟨.hbm, 127, rfl⟩
abbrev main_v72 : Ref sig .tc := ⟨.hbm, 128, rfl⟩
abbrev main_cst_31 : Ref sig .tc := ⟨.hbm, 129, rfl⟩
abbrev main_v73 : Ref sig .tc := ⟨.hbm, 130, rfl⟩
abbrev main_cst_32 : Ref sig .tc := ⟨.hbm, 131, rfl⟩
abbrev main_v74 : Ref sig .tc := ⟨.hbm, 132, rfl⟩
abbrev main_v75 : Ref sig .tc := ⟨.hbm, 133, rfl⟩
abbrev main_v76 : Ref sig .tc := ⟨.hbm, 134, rfl⟩
abbrev main_cst_33 : Ref sig .tc := ⟨.hbm, 135, rfl⟩
abbrev main_v77 : Ref sig .tc := ⟨.hbm, 136, rfl⟩
abbrev main_cst_34 : Ref sig .tc := ⟨.hbm, 137, rfl⟩
abbrev main_v78 : Ref sig .tc := ⟨.hbm, 138, rfl⟩
abbrev main_v79 : Ref sig .tc := ⟨.hbm, 139, rfl⟩
abbrev main_v80 : Ref sig .tc := ⟨.hbm, 140, rfl⟩

abbrev nD : Nat := 1
abbrev τ : Topo := Topo.v7x

variable {F : FTy → Type} [FloatOps F]
-- ==== Proof.BodyTwo.lean ====
/- One grid point of the second pass: from the block of `x` and the gate word the body leaves `gelu(x) * gate` in the
   output's staging memref. -/
module

public import proofs.«01_k».proof.Proof.Gen.KernelIdeal.Points
public import proofs.«01_k».proof.Proof.Gen.KernelIdeal.Skeleton
public import Idealize.ShloMosaic.Lib.Pipeline.ValueKit
public import Idealize.ShloMosaic.Lib.Pipeline.ReadBack

@[expose] public section

set_option maxRecDepth 16384

noncomputable section

namespace Cert.KernelIdeal.Whole

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-- The one word a 1×1 table holds. -/
def word (g : Vec F S1x1 .f32) : F .f32 := g (fun a => ⟨0, by fin_cases a <;> decide⟩)

/-- Reading a view after one store of its whole extent gives the stored value. -/
theorem read_store {sp : Space} {s : Shape} {e : EltTy} (v : View sig .tc sp s e) (f : v.ty.Contents (Elt F)) (off : Fin s.rank → ℕ) (inb : ∀ a, off a + s.size a ≤ s.size a)
    (L : List (View.Piece (Elt F) s e)) (w : s.Idx → Elt F e) (h : ∀ a, off a = 0) :
    v.read (Elt F) (v.writes (Elt F) f (⟨Rect.unit off s.size inb, w⟩ :: L)) = w := by
  funext y
  have hy : (Rect.unit off s.size inb).emb y = y := by
    funext a; apply Fin.ext; show off a + 1 * (y a : ℕ) = y a
    rw [h a]; omega
  have h' := View.read_writes_cons_emb v f (Rect.unit off s.size inb) w L y
  rwa [hy] at h'

/-- The word loaded from a 1×1 table. -/
theorem ld_word (g : Vec F S1x1 .f32) (r : Rect S1x1) (i : r.shape.Idx) : View.ld g r i = word g := by
  refine congrArg g (funext fun a => ?_)
  have : Subsingleton (Fin (S1x1.size a)) := by fin_cases a <;> exact (inferInstance : Subsingleton (Fin 1))
  exact Subsingleton.elim _ _

set_option maxHeartbeats 1000000 in
/-- The second pass at one grid point: the inputs are held as they were and the output holds the payload. -/
theorem run_two (c : Dev nD) (i : grid1.Coords) (arg1 : Memref sig .tc .vmem S1024x1024 .f32) (harg1 : arg1.IsWhole) (arg2 : Memref sig .tc .smem S1x1 .f32) (harg2 : arg2.IsWhole) (arg3 : Memref sig .tc .vmem S1024x1024 .f32) (harg3 : arg3.IsWhole)
    (x0 : Vec F S1024x1024 .f32) (x1 : Vec F S1x1 .f32) (E : Set ℕ) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (k1_pay1 x0 (word x1))) -∗ K ⟨⟩))
      ⊢ wp frame (wpE (defs₀ (F := F)) Variants.none c none) E (cc1__pass2_body i arg1 harg1 arg2 harg2 arg3 harg3) K := by
  simp only [cc1__pass2_body_eq_skeleton]; unfold cc1__pass2_body_skel
  unfold owns
  iintro ⟨⟨%f0, %hf0, H0⟩, ⟨%f1, %hf1, H1⟩, ⟨%d2, %f2, -, H2⟩, Hk⟩
  obtain rfl := harg1.eq_unread hf0; obtain rfl := harg2.eq_unread hf1
  sl_exec
  sl_step
  iapply Hk
  isplitl [H0]
  · iexists _; isplitr; · ipureintro; exact harg1.read_unread _
    iexact H0
  isplitl [H1]
  · iexists _; isplitr; · ipureintro; exact harg2.read_unread _
    iexact H1
  iexists _; isplitr
  rotate_left
  · iexact H2
  ipureintro
  frame_out
  rw [ld_word]
  exact read_store _ _ _ _ _ _ (by decide)

end Cert.KernelIdeal.Whole

end
-- ==== Proof.BodyOne.lean ====
/- One grid point of the first pass, by the point's place in the grid: the first point starts the running column sums in the
   scratch, every later one adds its block's sums, and the last one also stores the gate. -/
module

public import proofs.«01_k».proof.Proof.BodyTwo

@[expose] public section

set_option maxRecDepth 16384

noncomputable section

namespace Cert.KernelIdeal.Whole

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-- The condition of the branch that starts the sums. -/
abbrev condA (i : grid0.Coords) : Prop := (Scalar.cmpi .ne (Scalar.extui (Scalar.cmpi .eq (BitVec.ofNat 32 (i 0).val) 0#32)) 0#32) = 1#1

/-- The condition of the branch that adds to the sums. -/
abbrev condB (i : grid0.Coords) : Prop := (Scalar.cmpi .ne (Scalar.extui (Scalar.cmpi .ne (BitVec.ofNat 32 (i 0).val) 0#32)) 0#32) = 1#1

/-- The condition of the branch that stores the gate. -/
abbrev condC (i : grid0.Coords) : Prop := k0_cond3 i = 1#1

/-- The gate from the column sums `s`, the buffer `b`, the mask `mk`, the facilitation levels `fc` and the two logarithms. -/
noncomputable def gateOf (s : Vec F S1x1024 .f32) (b : Vec F S512x1024 .f32) (mk fc : Vec F S512x1 .f32) (lk ls : F .f32) : F .f32 :=
  k0_pay4 (k0_pay13 (k0_pay5 s b) (k0_pay7 mk) (k0_pay9 s b mk) (k0_pay11 s b mk) (k0_pay12 mk)) (k0_pay14 lk) (k0_pay15 ls)
    (k0_pay16 (k0_pay9 s b mk)) (k0_pay17 (k0_pay10 s b mk) fc)

set_option maxHeartbeats 2000000 in
/-- The first point: the scratch ends at the block's column sums, the gate is not touched. -/
theorem run_first (c : Dev nD) (i : grid0.Coords) (arg1 : Memref sig .tc .vmem S1024x1024 .f32) (harg1 : arg1.IsWhole) (arg2 : Memref sig .tc .vmem S512x1024 .f32) (harg2 : arg2.IsWhole) (arg3 : Memref sig .tc .vmem S512x1 .f32) (harg3 : arg3.IsWhole) (arg4 : Memref sig .tc .vmem S512x1 .f32) (harg4 : arg4.IsWhole) (arg5 : Memref sig .tc .smem S1x1 .f32) (harg5 : arg5.IsWhole) (arg6 : Memref sig .tc .smem S1x1 .f32) (harg6 : arg6.IsWhole) (arg7 : Memref sig .tc .smem S1x1 .f32) (harg7 : arg7.IsWhole) (arg8 : Memref sig .tc .vmem S1x1024 .f32) (harg8 : arg8.IsWhole) (hc0 : condA i) (hc1 : ¬condB i) (hc2 : ¬condC i)
    (x0 : Vec F S1024x1024 .f32) (x1 : Vec F S512x1024 .f32) (x2 : Vec F S512x1 .f32) (x3 : Vec F S512x1 .f32) (x4 : Vec F S1x1 .f32) (x5 : Vec F S1x1 .f32) (x6 : Vec F S1x1 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (k0_pay2 x0)) -∗ K ⟨⟩))
      ⊢ wp frame (wpE (defs₀ (F := F)) Variants.none c none) E (cc0_body i arg1 harg1 arg2 harg2 arg3 harg3 arg4 harg4 arg5 harg5 arg6 harg6 arg7 harg7 arg8 harg8) K := by
  simp only [cc0_body_eq_skeleton]; unfold cc0_body_skel
  simp only [k0_part1_eq_skeleton, k0_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d, %fs, -, HS⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6
  sl_exec (disch := first | sl_exact hc0 | sl_exact hc1 | sl_exact hc2)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  iexists _; isplitr
  rotate_left
  · iexact HS
  ipureintro
  frame_out
  exact read_store _ _ _ _ _ _ (by decide)

set_option maxHeartbeats 2000000 in
/-- A middle point: the block's column sums are added to the scratch, the gate is not touched. -/
theorem run_mid (c : Dev nD) (i : grid0.Coords) (arg1 : Memref sig .tc .vmem S1024x1024 .f32) (harg1 : arg1.IsWhole) (arg2 : Memref sig .tc .vmem S512x1024 .f32) (harg2 : arg2.IsWhole) (arg3 : Memref sig .tc .vmem S512x1 .f32) (harg3 : arg3.IsWhole) (arg4 : Memref sig .tc .vmem S512x1 .f32) (harg4 : arg4.IsWhole) (arg5 : Memref sig .tc .smem S1x1 .f32) (harg5 : arg5.IsWhole) (arg6 : Memref sig .tc .smem S1x1 .f32) (harg6 : arg6.IsWhole) (arg7 : Memref sig .tc .smem S1x1 .f32) (harg7 : arg7.IsWhole) (arg8 : Memref sig .tc .vmem S1x1024 .f32) (harg8 : arg8.IsWhole) (hc0 : ¬condA i) (hc1 : condB i) (hc2 : ¬condC i)
    (x0 : Vec F S1024x1024 .f32) (x1 : Vec F S512x1024 .f32) (x2 : Vec F S512x1 .f32) (x3 : Vec F S512x1 .f32) (x4 : Vec F S1x1 .f32) (x5 : Vec F S1x1 .f32) (x6 : Vec F S1x1 .f32) (xs : Vec F S1x1024 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare xs
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (k0_pay3 x0 xs)) -∗ K ⟨⟩))
      ⊢ wp frame (wpE (defs₀ (F := F)) Variants.none c none) E (cc0_body i arg1 harg1 arg2 harg2 arg3 harg3 arg4 harg4 arg5 harg5 arg6 harg6 arg7 harg7 arg8 harg8) K := by
  simp only [cc0_body_eq_skeleton]; unfold cc0_body_skel
  simp only [k0_part1_eq_skeleton, k0_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs, %hfs, HS⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hfs
  sl_exec (disch := first | sl_exact hc0 | sl_exact hc1 | sl_exact hc2)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  iexists _; isplitr
  rotate_left
  · iexact HS
  ipureintro
  frame_out
  exact read_store _ _ _ _ _ _ (by decide)

set_option maxHeartbeats 2000000 in
/-- The last point: the block's column sums are added to the scratch, and the gate is computed from them and stored. -/
theorem run_last (c : Dev nD) (i : grid0.Coords) (arg1 : Memref sig .tc .vmem S1024x1024 .f32) (harg1 : arg1.IsWhole) (arg2 : Memref sig .tc .vmem S512x1024 .f32) (harg2 : arg2.IsWhole) (arg3 : Memref sig .tc .vmem S512x1 .f32) (harg3 : arg3.IsWhole) (arg4 : Memref sig .tc .vmem S512x1 .f32) (harg4 : arg4.IsWhole) (arg5 : Memref sig .tc .smem S1x1 .f32) (harg5 : arg5.IsWhole) (arg6 : Memref sig .tc .smem S1x1 .f32) (harg6 : arg6.IsWhole) (arg7 : Memref sig .tc .smem S1x1 .f32) (harg7 : arg7.IsWhole) (arg8 : Memref sig .tc .vmem S1x1024 .f32) (harg8 : arg8.IsWhole) (hc0 : ¬condA i) (hc1 : condB i) (hc2 : condC i)
    (x0 : Vec F S1024x1024 .f32) (x1 : Vec F S512x1024 .f32) (x2 : Vec F S512x1 .f32) (x3 : Vec F S512x1 .f32) (x4 : Vec F S1x1 .f32) (x5 : Vec F S1x1 .f32) (xs : Vec F S1x1024 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ owns (c : Thread nD τ) arg8 fullShare xs
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (fun _ => gateOf (k0_pay3 x0 xs) x1 x2 x3 (word x4) (word x5)) ∗ owns (c : Thread nD τ) arg8 fullShare (k0_pay3 x0 xs)) -∗ K ⟨⟩))
      ⊢ wp frame (wpE (defs₀ (F := F)) Variants.none c none) E (cc0_body i arg1 harg1 arg2 harg2 arg3 harg3 arg4 harg4 arg5 harg5 arg6 harg6 arg7 harg7 arg8 harg8) K := by
  simp only [cc0_body_eq_skeleton]; unfold cc0_body_skel
  simp only [k0_part1_eq_skeleton, k0_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d, %f6, -, H6⟩, ⟨%fs, %hfs, HS⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg8.eq_unread hfs
  sl_exec (disch := first | sl_exact hc0 | sl_exact hc1 | sl_exact hc2)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr
    rotate_left
    · iexact H6
    ipureintro
    frame_out
    refine (read_store _ _ _ _ _ _ (by decide)).trans ?_
    funext _
    rw [ld_word, ld_word]; rfl
  iexists _; isplitr
  rotate_left
  · iexact HS
  ipureintro
  frame_out
  exact read_store _ _ _ _ _ _ (by decide)

end Cert.KernelIdeal.Whole

end
-- ==== Proof.PassOne.lean ====
/- The first pass as a pipeline: what its buffers hold at every grid point, from any contents of the arrays at its start, and
   the proof that the body keeps to it. -/
module

public import proofs.«01_k».proof.Proof.BodyOne
public import proofs.«01_k».proof.Proof.Gen.KernelIdeal.Regions
public import Idealize.ShloMosaic.Lib.Claim
public import Idealize.ShloMosaic.Lib.WordCmp

@[expose] public section

set_option maxRecDepth 16384

noncomputable section

namespace Cert.KernelIdeal.Whole

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! ## The branches' conditions -/

/-- The sums are started at the first point only. -/
theorem condA_iff : ∀ t : Fin cfg0.N, condA (grid0.coords t) ↔ t.val % 32 = 0 :=
  (fun t => by
    have ht : t.val < 32 := Nat.lt_of_lt_of_eq t.isLt N_0
    have e0 : (grid0.coords t 0).val = t.val / 1 % 32 := Pipeline.Grid.coords_val t 0 (by decide) rfl
    simp only [condA, e0]
    word_cmp
   : ∀ t : Fin grid0.N, condA (grid0.coords t) ↔ t.val % 32 = 0)

/-- They are added to at every later point. -/
theorem condB_iff : ∀ t : Fin cfg0.N, condB (grid0.coords t) ↔ 1 ≤ t.val :=
  (fun t => by
    have ht : t.val < 32 := Nat.lt_of_lt_of_eq t.isLt N_0
    have e0 : (grid0.coords t 0).val = t.val / 1 % 32 := Pipeline.Grid.coords_val t 0 (by decide) rfl
    simp only [condB, e0]
    word_cmp
   : ∀ t : Fin grid0.N, condB (grid0.coords t) ↔ 1 ≤ t.val)

/-- The gate is stored at the last point only. -/
theorem condC_iff : ∀ t : Fin cfg0.N, condC (grid0.coords t) ↔ t.val % 32 = 31 :=
  (fun t => by
    have ht : t.val < 32 := Nat.lt_of_lt_of_eq t.isLt N_0
    have e0 : (grid0.coords t 0).val = t.val / 1 % 32 := Pipeline.Grid.coords_val t 0 (by decide) rfl
    simp only [condC, k0_cond3, e0]
    word_cmp
   : ∀ t : Fin grid0.N, condC (grid0.coords t) ↔ t.val % 32 = 31)

/-- The gate's buffer is idle before the last point, -/
theorem gate_idle : ∀ t : Fin cfg0.N, ¬condC (grid0.coords t) → cfg0.idle 6 (grid0.coords t) = true := by decide +kernel
/-- not written back there, -/
theorem gate_unflushed : ∀ t : Fin cfg0.N, ¬condC (grid0.coords t) → (cfg0.win 6).flush t = false := by decide +kernel
/-- and stored at the last. -/
theorem gate_live : ∀ t : Fin cfg0.N, condC (grid0.coords t) → cfg0.idle 6 (grid0.coords t) = false := by decide +kernel

/-! ## The proof data -/

variable (V : (c : Dev nD) → (b : Ref sig .tc) → Buf (Elt F) ((c : Thread nD τ).loc b))

/-- Window `w`'s block at point `t` of its array. -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The running column sums after point `n`. -/
def acc (c : Dev nD) : (n : ℕ) → n < cfg0.N → Vec F S1x1024 .f32
  | 0, hn => k0_pay2 (blk0 V c 0 ⟨0, hn⟩)
  | n + 1, hn => k0_pay3 (blk0 V c 0 ⟨n + 1, hn⟩) (acc c n (Nat.lt_of_succ_lt hn))

/-- The gate from the sums after point `t` (the kernel stores it at the last point). -/
def gateAt (c : Dev nD) (t : Fin cfg0.N) : Vec F S1x1 .f32 := fun _ =>
  gateOf (acc V c t.val t.isLt) (blk0 V c 1 t) (blk0 V c 2 t) (blk0 V c 3 t) (word (blk0 V c 4 t)) (word (blk0 V c 5 t))

/-- The scratch holding the running sums. -/
abbrev scr : Memref sig .tc .vmem S1x1024 .f32 := Memref.whole cc0_scratch0

/-- The second pass's staging buffers, each at some contents. -/
def otherBufs (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f)
    ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f)
    ∗ (∃ f : Buf (Elt F) ((c : Thread nD τ).loc cc1_stg1_0), ((c : Thread nD τ).loc cc1_stg1_0) ↦{fullShare} f))

/-- The buffers the first pass does not stage, and the generator register: the scratch and the others. -/
theorem PhiA0_eq (c : Dev nD) :
    (Pipeline.ΦA spec0 c : sProp 𝕄)
      = iprop(((∃ d, owns (c : Thread nD τ) scr fullShare d) ∗ otherBufs c) ∗ (∃ r, prngReg c r)) := by
  unfold Pipeline.ΦA otherBufs; rw [scopedRest0_eq]; simp only [scr, owns_whole]; try rfl

/-- What holds between points: before the first anything, afterwards the scratch holds the running sums. -/
def inv0 (c : Dev nD) : (n : ℕ) → n ≤ cfg0.N → sProp 𝕄
  | 0, _ => Pipeline.ΦA spec0 c
  | n + 1, hn => iprop((owns (c : Thread nD τ) scr fullShare (acc V c n hn) ∗ otherBufs c) ∗ (∃ r, prngReg c r))

/-- Before a point that is not the first the scratch holds the sums the point before left. -/
theorem inv0_pos (c : Dev nD) (n : ℕ) (h : n ≤ cfg0.N) (hz : n ≠ 0) :
    inv0 V c n h = iprop((owns (c : Thread nD τ) scr fullShare (acc V c (n - 1) (by omega)) ∗ otherBufs c) ∗ (∃ r, prngReg c r)) := by
  cases n with
  | zero => exact absurd rfl hz
  | succ n => rfl

/-- The first pass's proof data. -/
def dat0 (c : Dev nD) : Dat τ (Elt F) Unit ℕ (UR sig nD τ) ℕ cfg0 c where
  A w := V c (Pipeline.arrRef spec0 w)
  after w t := match w with
    | ⟨0, _⟩ => blk0 V c 0 t
    | ⟨1, _⟩ => blk0 V c 1 t
    | ⟨2, _⟩ => blk0 V c 2 t
    | ⟨3, _⟩ => blk0 V c 3 t
    | ⟨4, _⟩ => blk0 V c 4 t
    | ⟨5, _⟩ => blk0 V c 5 t
    | ⟨6, _⟩ => gateAt V c t
  Φ t := inv0 V c t.val (Nat.le_of_lt_succ t.isLt)
  q _ := fullShare
  owed _ := 0

/-- Its arrays are as the pass finds them. -/
theorem A0_eq (c : Dev nD) (w : Fin cfg0.W) : (dat0 V c).A w = V c (Pipeline.arrRef spec0 w) := by dsimp only [dat0]

theorem inv0_castSucc (c : Dev nD) (t : Fin cfg0.N) : (dat0 V c).Φ t.castSucc = inv0 V c t.val (Nat.le_of_lt t.isLt) := by
  dsimp only [dat0]; exact Pipeline.Dat.Φ_castSucc (inv0 V c) t

theorem after0_0 (c : Dev nD) (t : Fin cfg0.N) : (dat0 V c).after 0 t = blk0 V c 0 t := by dsimp only [dat0]
theorem after0_1 (c : Dev nD) (t : Fin cfg0.N) : (dat0 V c).after 1 t = blk0 V c 1 t := by dsimp only [dat0]
theorem after0_2 (c : Dev nD) (t : Fin cfg0.N) : (dat0 V c).after 2 t = blk0 V c 2 t := by dsimp only [dat0]
theorem after0_3 (c : Dev nD) (t : Fin cfg0.N) : (dat0 V c).after 3 t = blk0 V c 3 t := by dsimp only [dat0]
theorem after0_4 (c : Dev nD) (t : Fin cfg0.N) : (dat0 V c).after 4 t = blk0 V c 4 t := by dsimp only [dat0]
theorem after0_5 (c : Dev nD) (t : Fin cfg0.N) : (dat0 V c).after 5 t = blk0 V c 5 t := by dsimp only [dat0]
theorem after0_6 (c : Dev nD) (t : Fin cfg0.N) : (dat0 V c).after 6 t = gateAt V c t := by dsimp only [dat0]

/-! Each input's staging buffer holds its block when the body runs. -/

theorem before0_0 (c : Dev nD) (t : Fin cfg0.N) (d) : (dat0 V c).before 0 t d = blk0 V c 0 t :=
  ((dat0 V c).before_in_eq_fetched 0 rfl (fun _ => rfl) (fun _ _ _ => rfl) (fun t => by rw [after0_0]; unfold Dat.blockOf blk0; rw [A0_eq]) t d).trans
    (by unfold Dat.fetched Dat.blockOf blk0; rw [A0_eq]; try rfl)
theorem before0_1 (c : Dev nD) (t : Fin cfg0.N) (d) : (dat0 V c).before 1 t d = blk0 V c 1 t :=
  ((dat0 V c).before_in_eq_fetched 1 rfl (fun _ => rfl) (fun _ _ _ => rfl) (fun t => by rw [after0_1]; unfold Dat.blockOf blk0; rw [A0_eq]) t d).trans
    (by unfold Dat.fetched Dat.blockOf blk0; rw [A0_eq]; try rfl)
theorem before0_2 (c : Dev nD) (t : Fin cfg0.N) (d) : (dat0 V c).before 2 t d = blk0 V c 2 t :=
  ((dat0 V c).before_in_eq_fetched 2 rfl (fun _ => rfl) (fun _ _ _ => rfl) (fun t => by rw [after0_2]; unfold Dat.blockOf blk0; rw [A0_eq]) t d).trans
    (by unfold Dat.fetched Dat.blockOf blk0; rw [A0_eq]; try rfl)
theorem before0_3 (c : Dev nD) (t : Fin cfg0.N) (d) : (dat0 V c).before 3 t d = blk0 V c 3 t :=
  ((dat0 V c).before_in_eq_fetched 3 rfl (fun _ => rfl) (fun _ _ _ => rfl) (fun t => by rw [after0_3]; unfold Dat.blockOf blk0; rw [A0_eq]) t d).trans
    (by unfold Dat.fetched Dat.blockOf blk0; rw [A0_eq]; try rfl)
theorem before0_4 (c : Dev nD) (t : Fin cfg0.N) (d) : (dat0 V c).before 4 t d = blk0 V c 4 t :=
  ((dat0 V c).before_in_eq_fetched 4 rfl (fun _ => rfl) (fun _ _ _ => rfl) (fun t => by rw [after0_4]; unfold Dat.blockOf blk0; rw [A0_eq]) t d).trans
    (by unfold Dat.fetched Dat.blockOf blk0; rw [A0_eq]; try rfl)
theorem before0_5 (c : Dev nD) (t : Fin cfg0.N) (d) : (dat0 V c).before 5 t d = blk0 V c 5 t :=
  ((dat0 V c).before_in_eq_fetched 5 rfl (fun _ => rfl) (fun _ _ _ => rfl) (fun t => by rw [after0_5]; unfold Dat.blockOf blk0; rw [A0_eq]) t d).trans
    (by unfold Dat.fetched Dat.blockOf blk0; rw [A0_eq]; try rfl)

/-! The staging buffers the body is called with, and what it hands back. -/

abbrev stg0_0 (t : Fin cfg0.N) : Memref sig .tc .vmem S1024x1024 .f32 := win0_0.stage (cfg0.slots t 0)
abbrev stg0_1 (t : Fin cfg0.N) : Memref sig .tc .vmem S512x1024 .f32 := win0_1.stage (cfg0.slots t 1)
abbrev stg0_2 (t : Fin cfg0.N) : Memref sig .tc .vmem S512x1 .f32 := win0_2.stage (cfg0.slots t 2)
abbrev stg0_3 (t : Fin cfg0.N) : Memref sig .tc .vmem S512x1 .f32 := win0_3.stage (cfg0.slots t 3)
abbrev stg0_4 (t : Fin cfg0.N) : Memref sig .tc .smem S1x1 .f32 := win0_4.stage (cfg0.slots t 4)
abbrev stg0_5 (t : Fin cfg0.N) : Memref sig .tc .smem S1x1 .f32 := win0_5.stage (cfg0.slots t 5)
abbrev stg0_6 (t : Fin cfg0.N) : Memref sig .tc .smem S1x1 .f32 := win0_6.stage (cfg0.slots t 6)

theorem leaves0_0 (c : Dev nD) (t : Fin cfg0.N) : (dat0 V c).leavesExact 0 t = owns (c : Thread nD τ) (stg0_0 t) fullShare (blk0 V c 0 t) := by
  rw [← after0_0]
theorem leaves0_1 (c : Dev nD) (t : Fin cfg0.N) : (dat0 V c).leavesExact 1 t = owns (c : Thread nD τ) (stg0_1 t) fullShare (blk0 V c 1 t) := by
  rw [← after0_1]
theorem leaves0_2 (c : Dev nD) (t : Fin cfg0.N) : (dat0 V c).leavesExact 2 t = owns (c : Thread nD τ) (stg0_2 t) fullShare (blk0 V c 2 t) := by
  rw [← after0_2]
theorem leaves0_3 (c : Dev nD) (t : Fin cfg0.N) : (dat0 V c).leavesExact 3 t = owns (c : Thread nD τ) (stg0_3 t) fullShare (blk0 V c 3 t) := by
  rw [← after0_3]
theorem leaves0_4 (c : Dev nD) (t : Fin cfg0.N) : (dat0 V c).leavesExact 4 t = owns (c : Thread nD τ) (stg0_4 t) fullShare (blk0 V c 4 t) := by
  rw [← after0_4]
theorem leaves0_5 (c : Dev nD) (t : Fin cfg0.N) : (dat0 V c).leavesExact 5 t = owns (c : Thread nD τ) (stg0_5 t) fullShare (blk0 V c 5 t) := by
  rw [← after0_5]
theorem leaves0_6 (c : Dev nD) (t : Fin cfg0.N) (h : condC (grid0.coords t)) : (dat0 V c).leavesExact 6 t = owns (c : Thread nD τ) (stg0_6 t) fullShare (gateAt V c t) := by
  rw [← after0_6]; unfold Dat.leavesExact; rw [gate_live t h]

/-! ## The body at every point -/

/-- What the body is called with at point `t`, -/
def pre0 (c : Dev nD) (t : Fin cfg0.N) : sProp 𝕄 :=
  iprop((dat0 V c).Φ t.castSucc ∗ (dat0 V c).owesAt () t.castSucc
    ∗ (∃ d, owns (c : Thread nD τ) (stg0_0 t) fullShare ((dat0 V c).before 0 t d))
    ∗ (∃ d, owns (c : Thread nD τ) (stg0_1 t) fullShare ((dat0 V c).before 1 t d))
    ∗ (∃ d, owns (c : Thread nD τ) (stg0_2 t) fullShare ((dat0 V c).before 2 t d))
    ∗ (∃ d, owns (c : Thread nD τ) (stg0_3 t) fullShare ((dat0 V c).before 3 t d))
    ∗ (∃ d, owns (c : Thread nD τ) (stg0_4 t) fullShare ((dat0 V c).before 4 t d))
    ∗ (∃ d, owns (c : Thread nD τ) (stg0_5 t) fullShare ((dat0 V c).before 5 t d))
    ∗ (∃ d, owns (c : Thread nD τ) (stg0_6 t) fullShare ((dat0 V c).before 6 t d)))

/-- and what it returns. -/
def post0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t
    ∗ (dat0 V c).leavesExact 6 t)

/-- The sums after a later point are the payload over those the point before left. -/
theorem acc_pos (c : Dev nD) (n : ℕ) (hn : n < cfg0.N) (hz : n ≠ 0) :
    acc V c n hn = k0_pay3 (blk0 V c 0 ⟨n, hn⟩) (acc V c (n - 1) (by omega)) := by
  cases n with
  | zero => exact absurd rfl hz
  | succ n => rfl

/-- The sums after the first point are its block's. -/
theorem acc_zero (c : Dev nD) (n : ℕ) (hn : n < cfg0.N) (hz : n = 0) : acc V c n hn = k0_pay2 (blk0 V c 0 ⟨n, hn⟩) := by
  subst hz; rfl

set_option maxHeartbeats 9600000 in
/-- The body runs from the one to the other at every point. -/
theorem sound0 (c : Dev nD) (t : Fin cfg0.N) :
    pre0 V c t ⊢ wp frame (wpE (defs₀ (F := F)) Variants.none c none) Set.univ (bodyAt0 t) (fun _ => post0 V c t) := by
  unfold pre0 post0 bodyAt0
  simp only [before0_0, before0_1, before0_2, before0_3, before0_4, before0_5, leaves0_0, leaves0_1, leaves0_2, leaves0_3, leaves0_4, leaves0_5]
  rw [show (dat0 V c).owesAt () t.succ = (dat0 V c).owesAt () t.castSucc from rfl]
  rw [show (dat0 V c).Φ t.succ = iprop((owns (c : Thread nD τ) scr fullShare (acc V c t.val t.isLt) ∗ otherBufs c) ∗ (∃ r, prngReg c r)) from rfl]
  have hN : t.val < 32 := lt_of_lt_of_eq t.isLt (show cfg0.N = 32 from N_0)
  rw [inv0_castSucc V c t]
  by_cases h0 : t.val = 0
  · have hA : condA (grid0.coords t) := (condA_iff t).mpr (by omega)
    have hB : ¬condB (grid0.coords t) := fun h => by have := (condB_iff t).mp h; omega
    have hC : ¬condC (grid0.coords t) := fun h => by have := (condC_iff t).mp h; omega
    rw [Dat.leavesExact_idle (dat0 V c) 6 t (gate_idle t hC) (gate_unflushed t hC)]
    rw [show inv0 V c t.val (Nat.le_of_lt t.isLt) = Pipeline.ΦA spec0 c from by
      obtain ⟨n, hn⟩ := t; obtain rfl : n = 0 := h0; rfl, PhiA0_eq, acc_zero V c _ _ h0]
    iintro ⟨⟨⟨HS, Hb⟩, Hg⟩, Ho, ⟨%d0, H0⟩, ⟨%d1, H1⟩, ⟨%d2, H2⟩, ⟨%d3, H3⟩, ⟨%d4, H4⟩, ⟨%d5, H5⟩, ⟨%d6, H6⟩⟩
    iapply (run_first c (grid0.coords t) _ _ _ _ _ _ _ _ _ _ _ _ _ _ _ _ hA hB hC (blk0 V c 0 t) (blk0 V c 1 t) (blk0 V c 2 t) (blk0 V c 3 t) (blk0 V c 4 t) (blk0 V c 5 t) _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HS]; · iexact HS
    iintro ⟨H0, H1, H2, H3, H4, H5, H6, HS⟩
    isplitl [HS Hb Hg]
    · isplitl [HS Hb]
      · isplitl [HS]; · iexact HS
        iexact Hb
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexists _; iexact H6
  · have hA : ¬condA (grid0.coords t) := fun h => by have := (condA_iff t).mp h; omega
    have hB : condB (grid0.coords t) := (condB_iff t).mpr (by omega)
    rw [inv0_pos V c _ _ h0]
    by_cases h2 : t.val % 32 = 31
    · have hC : condC (grid0.coords t) := (condC_iff t).mpr h2
      rw [leaves0_6 V c t hC]; unfold gateAt; rw [acc_pos V c _ _ h0]
      iintro ⟨⟨⟨HS, Hb⟩, Hg⟩, Ho, ⟨%d0, H0⟩, ⟨%d1, H1⟩, ⟨%d2, H2⟩, ⟨%d3, H3⟩, ⟨%d4, H4⟩, ⟨%d5, H5⟩, ⟨%d6, H6⟩⟩
      iapply (run_last c (grid0.coords t) _ _ _ _ _ _ _ _ _ _ _ _ _ _ _ _ hA hB hC (blk0 V c 0 t) (blk0 V c 1 t) (blk0 V c 2 t) (blk0 V c 3 t) (blk0 V c 4 t) (blk0 V c 5 t) _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HS]; · iexact HS
      iintro ⟨H0, H1, H2, H3, H4, H5, H6, HS⟩
      isplitl [HS Hb Hg]
      · isplitl [HS Hb]
        · isplitl [HS]; · iexact HS
          iexact Hb
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6
    · have hC : ¬condC (grid0.coords t) := fun h => h2 ((condC_iff t).mp h)
      rw [Dat.leavesExact_idle (dat0 V c) 6 t (gate_idle t hC) (gate_unflushed t hC), acc_pos V c _ _ h0]
      iintro ⟨⟨⟨HS, Hb⟩, Hg⟩, Ho, ⟨%d0, H0⟩, ⟨%d1, H1⟩, ⟨%d2, H2⟩, ⟨%d3, H3⟩, ⟨%d4, H4⟩, ⟨%d5, H5⟩, ⟨%d6, H6⟩⟩
      iapply (run_mid c (grid0.coords t) _ _ _ _ _ _ _ _ _ _ _ _ _ _ _ _ hA hB hC (blk0 V c 0 t) (blk0 V c 1 t) (blk0 V c 2 t) (blk0 V c 3 t) (blk0 V c 4 t) (blk0 V c 5 t) _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS]; · iexact HS
      iintro ⟨H0, H1, H2, H3, H4, H5, H6, HS⟩
      isplitl [HS Hb Hg]
      · isplitl [HS Hb]
        · isplitl [HS]; · iexact HS
          iexact Hb
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6

/-- The first pass's call runs the body at the point's staging buffers. -/
theorem row0 (t : Fin cfg0.N) : defs₀ (F := F) .tc cfg0.body (cfg0.bodyArgs t (cfg0.slots t)) = bodyAt0 t := by
  unfold defs₀; rw [Defs.onTc_tc]

/-- The body keeps to the proof data. -/
theorem body0 (c : Dev nD) : BodyObligation (dat0 (F := F) V c) (defs₀ (F := F)) Variants.none () Set.univ := fun t => by
  rw [bigSep_W0, bigSep_W0, row0]
  exact triple_restated (sound0 V c t) rfl .rfl fun _ => .rfl

/-- After the last point the invariant gives back the scratch, the other buffers and the register. -/
theorem out0 (c : Dev nD) : (dat0 V c).Φ (Fin.last cfg0.N) ⊢ (Pipeline.ΦA spec0 c : sProp 𝕄) := by
  rw [show (dat0 V c).Φ (Fin.last cfg0.N) = inv0 V c cfg0.N (le_refl _) from rfl, inv0_pos V c _ _ (by have : cfg0.N = 32 := N_0; omega), PhiA0_eq]
  iintro ⟨⟨HS, Hb⟩, Hg⟩
  isplitr [Hg]
  · isplitl [HS]; · iexists _; iexact HS
    iexact Hb
  iexact Hg

end Cert.KernelIdeal.Whole

end
-- ==== Proof.PassTwo.lean ====
/- The second pass as a pipeline: every block of its output is computed from the same block of `x` and the gate. -/
module

public import proofs.«01_k».proof.Proof.BodyOne
public import proofs.«01_k».proof.Proof.Gen.KernelIdeal.Regions
public import Idealize.ShloMosaic.Lib.Claim

@[expose] public section

set_option maxRecDepth 16384

noncomputable section

namespace Cert.KernelIdeal.Whole

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-- Window `w`'s block at point `t` of its array. -/
def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- What the body leaves in the output's staging buffer at point `t`. -/
def outAt (c : Dev nD) (t : Fin cfg1.N) : Vec F S1024x1024 .f32 := k1_pay1 (blk1 V c 0 t) (word (blk1 V c 1 t))

/-- The second pass's proof data. -/
def dat1 (c : Dev nD) : Dat τ (Elt F) Unit ℕ (UR sig nD τ) ℕ cfg1 c where
  A w := V c (Pipeline.arrRef spec1 w)
  after w t := match w with
    | ⟨0, _⟩ => blk1 V c 0 t
    | ⟨1, _⟩ => blk1 V c 1 t
    | ⟨2, _⟩ => outAt V c t
  Φ _ := Pipeline.ΦA spec1 c
  q _ := fullShare
  owed _ := 0

/-- Its arrays are as the pass finds them. -/
theorem A1_eq (c : Dev nD) (w : Fin cfg1.W) : (dat1 V c).A w = V c (Pipeline.arrRef spec1 w) := by dsimp only [dat1]

theorem after1_0 (c : Dev nD) (t : Fin cfg1.N) : (dat1 V c).after 0 t = blk1 V c 0 t := by dsimp only [dat1]
theorem after1_1 (c : Dev nD) (t : Fin cfg1.N) : (dat1 V c).after 1 t = blk1 V c 1 t := by dsimp only [dat1]
theorem after1_2 (c : Dev nD) (t : Fin cfg1.N) : (dat1 V c).after 2 t = outAt V c t := by dsimp only [dat1]

/-! Each input's staging buffer holds its block when the body runs. -/

theorem before1_0 (c : Dev nD) (t : Fin cfg1.N) (d) : (dat1 V c).before 0 t d = blk1 V c 0 t :=
  ((dat1 V c).before_in_eq_fetched 0 rfl (fun _ => rfl) (fun _ _ _ => rfl) (fun t => by rw [after1_0]; unfold Dat.blockOf blk1; rw [A1_eq]) t d).trans
    (by unfold Dat.fetched Dat.blockOf blk1; rw [A1_eq]; try rfl)
theorem before1_1 (c : Dev nD) (t : Fin cfg1.N) (d) : (dat1 V c).before 1 t d = blk1 V c 1 t :=
  ((dat1 V c).before_in_eq_fetched 1 rfl (fun _ => rfl) (fun _ _ _ => rfl) (fun t => by rw [after1_1]; unfold Dat.blockOf blk1; rw [A1_eq]) t d).trans
    (by unfold Dat.fetched Dat.blockOf blk1; rw [A1_eq]; try rfl)

abbrev stg1_0 (t : Fin cfg1.N) : Memref sig .tc .vmem S1024x1024 .f32 := win1_0.stage (cfg1.slots t 0)
abbrev stg1_1 (t : Fin cfg1.N) : Memref sig .tc .smem S1x1 .f32 := win1_1.stage (cfg1.slots t 1)
abbrev stg1_2 (t : Fin cfg1.N) : Memref sig .tc .vmem S1024x1024 .f32 := win1_2.stage (cfg1.slots t 2)

theorem leaves1_0 (c : Dev nD) (t : Fin cfg1.N) : (dat1 V c).leavesExact 0 t = owns (c : Thread nD τ) (stg1_0 t) fullShare (blk1 V c 0 t) := by
  rw [← after1_0]
theorem leaves1_1 (c : Dev nD) (t : Fin cfg1.N) : (dat1 V c).leavesExact 1 t = owns (c : Thread nD τ) (stg1_1 t) fullShare (blk1 V c 1 t) := by
  rw [← after1_1]
theorem leaves1_2 (c : Dev nD) (t : Fin cfg1.N) : (dat1 V c).leavesExact 2 t = owns (c : Thread nD τ) (stg1_2 t) fullShare (outAt V c t) := by
  rw [← after1_2]

/-- What the body is called with at point `t`, -/
def pre1 (c : Dev nD) (t : Fin cfg1.N) : sProp 𝕄 :=
  iprop((dat1 V c).Φ t.castSucc ∗ (dat1 V c).owesAt () t.castSucc
    ∗ (∃ d, owns (c : Thread nD τ) (stg1_0 t) fullShare ((dat1 V c).before 0 t d))
    ∗ (∃ d, owns (c : Thread nD τ) (stg1_1 t) fullShare ((dat1 V c).before 1 t d))
    ∗ (∃ d, owns (c : Thread nD τ) (stg1_2 t) fullShare ((dat1 V c).before 2 t d)))

/-- and what it returns. -/
def post1 (c : Dev nD) (t : Fin cfg1.N) : sProp 𝕄 :=
  iprop((dat1 V c).Φ t.succ ∗ (dat1 V c).owesAt () t.succ
    ∗ (dat1 V c).leavesExact 0 t ∗ (dat1 V c).leavesExact 1 t ∗ (dat1 V c).leavesExact 2 t)

set_option maxHeartbeats 4800000 in
/-- The body runs from the one to the other at every point. -/
theorem sound1 (c : Dev nD) (t : Fin cfg1.N) :
    pre1 V c t ⊢ wp frame (wpE (defs₀ (F := F)) Variants.none c none) Set.univ (bodyAt1 t) (fun _ => post1 V c t) := by
  unfold pre1 post1 bodyAt1
  simp only [before1_0, before1_1, leaves1_0, leaves1_1, leaves1_2]
  rw [show (dat1 V c).owesAt () t.succ = (dat1 V c).owesAt () t.castSucc from rfl,
    show (dat1 V c).Φ t.succ = (dat1 V c).Φ t.castSucc from rfl]
  unfold outAt
  iintro ⟨HΦ, Ho, ⟨%d0, H0⟩, ⟨%d1, H1⟩, ⟨%d2, H2⟩⟩
  iapply (run_two c (grid1.coords t) _ _ _ _ _ _ (blk1 V c 0 t) (blk1 V c 1 t) Set.univ _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The second pass's call runs the body at the point's staging buffers. -/
theorem row1 (t : Fin cfg1.N) : defs₀ (F := F) .tc cfg1.body (cfg1.bodyArgs t (cfg1.slots t)) = bodyAt1 t := by
  unfold defs₀; rw [Defs.onTc_tc]

/-- The body keeps to the proof data. -/
theorem body1 (c : Dev nD) : BodyObligation (dat1 (F := F) V c) (defs₀ (F := F)) Variants.none () Set.univ := fun t => by
  rw [bigSep_W1, bigSep_W1, row1]
  exact triple_restated (sound1 V c t) rfl .rfl fun _ => .rfl

end Cert.KernelIdeal.Whole

end
-- ==== Proof.Run.lean ====
/- The whole program: host operations, the first pass, the second pass, and the reshape of the result, run one after the other.
   Every final state holds the arguments as launched and the result's buffer at `W4`. -/
module

public import proofs.«01_k».proof.Proof.PassOne
public import proofs.«01_k».proof.Proof.PassTwo

@[expose] public section

set_option maxRecDepth 16384

noncomputable section

namespace Cert.KernelIdeal.Whole

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F] [Named F]

local notation "𝕄" => MT nD τ sig Unit (Elt F) ℕ (UR sig nD τ) ℕ

variable (m : (ℓ : Loc nD τ sig) → Buf (Elt F) ℓ)

/-- The buffers as the first pass finds them. -/
abbrev at1 (c : Dev nD) (b : Ref sig .tc) : Buf (Elt F) ((c : Thread nD τ).loc b) := V1 m c b

/-- What the first pass leaves in the gate's array. -/
def gateArr (c : Dev nD) : Buf (Elt F) ((c : Thread nD τ).loc main_v6) := (dat0 (at1 m) c).arrAt 6 cfg0.N

/-- The buffers after the first pass. -/
def W2 (c : Dev nD) : Valuation τ sig (Elt F) := Function.update (V1 m c) main_v6 (gateArr m c)

/-- The buffers as the second pass finds them. -/
abbrev at2 (c : Dev nD) (b : Ref sig .tc) : Buf (Elt F) ((c : Thread nD τ).loc b) := W2 m c b

/-- What the second pass leaves in its output's array. -/
def outArr (c : Dev nD) : Buf (Elt F) ((c : Thread nD τ).loc main_v7) := (dat1 (at2 m) c).arrAt 2 cfg1.N

/-- The buffers after the second pass. -/
def W3 (c : Dev nD) : Valuation τ sig (Elt F) := Function.update (W2 m c) main_v7 (outArr m c)

/-- The buffers as the reshape of the result finds them. -/
abbrev at3 (c : Dev nD) (b : Ref sig .tc) : Buf (Elt F) ((c : Thread nD τ).loc b) := W3 m c b

/-- The buffers at the end. -/
def W4 (c : Dev nD) : Valuation τ sig (Elt F) := StableHlo.after hostOps2 (W3 m c)

theorem W2_of (c : Dev nD) (r : Ref sig .tc) (h : r ≠ main_v6) : W2 m c r = V1 m c r := by
  unfold W2; exact Function.update_of_ne (StableHlo.devRef_ne_of_ne h : (Proc.devRef .tc r : DevRef τ sig) ≠ Proc.devRef .tc main_v6) _ _

theorem W3_of (c : Dev nD) (r : Ref sig .tc) (h : r ≠ main_v7) : W3 m c r = W2 m c r := by
  unfold W3; exact Function.update_of_ne (StableHlo.devRef_ne_of_ne h : (Proc.devRef .tc r : DevRef τ sig) ≠ Proc.devRef .tc main_v7) _ _

/-- A buffer no operation and no pass writes ends as launched. -/
theorem W4_of (c : Dev nD) (r : Ref sig .tc) (h8 : r ∉ hostOps2_W) (h7 : r ≠ main_v7) (h6 : r ≠ main_v6) (h : r ∉ hostOps0_W) :
    W4 m c r = m ((c : Thread nD τ).loc r) :=
  (StableHlo.after_of_writes_sub hostOps2 _ hostOps2_writes h8).trans <| (W3_of m c r h7).trans <| (W2_of m c r h6).trans <| (V1_of m c r h).trans rfl

/-- No core owes another anything: no level is assigned. -/
abbrev levels : GSem nD τ sig → Finset Unit := fun _ => ∅
abbrev level : GSem nD τ sig → Unit → ℕ := fun _ _ => 0

/-- The two passes' proof data, each from the buffers as it finds them. -/
def pdats : (p : Fin 2) → (c : Dev nD) → Dat τ (Elt F) Unit ℕ (UR sig nD τ) ℕ (Pipeline.pin (pcfgs (F := F)) adm p) c
  | ⟨0, _⟩ => fun c => dat0 (at1 m) c
  | ⟨1, _⟩ => fun c => dat1 (at2 m) c

/-- What rides along beside the buffers: the core owes nothing, and the generator register. -/
abbrev rest (c : Dev nD) : sProp 𝕄 := iprop((∃ W, owes (c : Thread nD τ) (0 : CellTallies nD τ sig Unit) W) ∗ (∃ r, prngReg c r))

/-- Every array of pass one at its end, read from the buffers after it. -/
theorem arrays_end0 (c : Dev nD) : ∀ w : Fin cfg0.W, ((dat0 (at1 m) c).arrAt w cfg0.N : Buf (Elt F) _) = at2 m c (Pipeline.arrRef spec0 w)
  | 0 => ((dat0 (at1 m) c).arrAt_in 0 rfl _).trans ((A0_eq (at1 m) c 0).trans (W2_of m c main_v0 (by decide)).symm)
  | 1 => ((dat0 (at1 m) c).arrAt_in 1 rfl _).trans ((A0_eq (at1 m) c 1).trans (W2_of m c main_arg3 (by decide)).symm)
  | 2 => ((dat0 (at1 m) c).arrAt_in 2 rfl _).trans ((A0_eq (at1 m) c 2).trans (W2_of m c main_v2 (by decide)).symm)
  | 3 => ((dat0 (at1 m) c).arrAt_in 3 rfl _).trans ((A0_eq (at1 m) c 3).trans (W2_of m c main_v3 (by decide)).symm)
  | 4 => ((dat0 (at1 m) c).arrAt_in 4 rfl _).trans ((A0_eq (at1 m) c 4).trans (W2_of m c main_v4 (by decide)).symm)
  | 5 => ((dat0 (at1 m) c).arrAt_in 5 rfl _).trans ((A0_eq (at1 m) c 5).trans (W2_of m c main_v5 (by decide)).symm)
  | 6 => (Function.update_self (Proc.devRef .tc main_v6 : DevRef τ sig) _ (V1 m c)).symm

/-- Every array of pass two at its end, read from the buffers after it. -/
theorem arrays_end1 (c : Dev nD) : ∀ w : Fin cfg1.W, ((dat1 (at2 m) c).arrAt w cfg1.N : Buf (Elt F) _) = at3 m c (Pipeline.arrRef spec1 w)
  | 0 => ((dat1 (at2 m) c).arrAt_in 0 rfl _).trans ((A1_eq (at2 m) c 0).trans (W3_of m c main_v0 (by decide)).symm)
  | 1 => ((dat1 (at2 m) c).arrAt_in 1 rfl _).trans ((A1_eq (at2 m) c 1).trans (W3_of m c main_v6 (by decide)).symm)
  | 2 => (Function.update_self (Proc.devRef .tc main_v7 : DevRef τ sig) _ (W2 m c)).symm

set_option backward.isDefEq.respectTransparency.types false in
/-- Pass one over the thread state: entered with every unscoped buffer at `V1`, left with them at `W2`. -/
def reg0 : RegionSeg (pcfgs (F := F)) adm (pdats m) () defs₀ Variants.none levels level 0 where
  win := launch0.win.to₀
  block_pos := launch0.block_pos
  stage_whole := launch0.stage_whole
  K := PEmpty
  osem k := k.elim
  ho := Pipeline.OwnSemFacts.none _
  hbody c := (body0 (at1 m) c).loose
  hwaits := Pipeline.hwaits_of_owed_zero _ _ _ _ levels level 0 fun _ _ => rfl
  pre c := iprop(StableHlo.held (c : Thread nD τ) (Pipeline.ucRefs τ sig) (V1 m c) ∗ rest c)
  post c := iprop(StableHlo.held (c : Thread nD τ) (Pipeline.ucRefs τ sig) (W2 m c) ∗ rest c)
  X c := iprop(∃ r, prngReg c r)
  Y c := iprop(∃ r, prngReg c r)
  Z c := Pipeline.unscopedRest (Ix := Unit) (Name := ℕ) (U := UR sig nD τ) (Lvl := ℕ) spec0 c (at1 m c)
  hentry c := by
    rw [← Pipeline.unscopedBufs_held (Ix := Unit) (Name := ℕ) (U := UR sig nD τ) (Lvl := ℕ) c (V1 m c), Pipeline.ownSems0_none]
    have hsplit := Pipeline.arrays_of_unscopedBufs (p := 0) (pcfgs (F := F)) adm (pdats m) launch0.win launch0.arr_whole c
      ((pdats m 0 c).share_full fun _ => rfl) (at1 m c) (A0_eq (at1 m) c)
    iintro ⟨⟨Hub, HO, Hg⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hg]; · iexact Hg
    iexact Hrest
  hin c := by
    rw [show (pdats m 0 c).Φ 0 = Pipeline.ΦA spec0 c from rfl]
    unfold Pipeline.ΦA
    iintro ⟨Hg, -, Hr⟩
    isplitl [Hr]; · iexact Hr
    iexact Hg
  hout c := by
    rw [Pipeline.ownSems0_none]
    refine (out0 (at1 m) c).trans ?_
    unfold Pipeline.ΦA
    iintro ⟨Hr, Hg⟩
    isplitl [Hg]; · iexact Hg
    isplitr; · iempintro
    iexact Hr
  hexit c := by
    rw [← Pipeline.unscopedBufs_held (Ix := Unit) (Name := ℕ) (U := UR sig nD τ) (Lvl := ℕ) c (W2 m c)]
    have hjoin := Pipeline.unscopedBufs_of_arrays (p := 0) (pcfgs (F := F)) adm (Ix := Unit) (Name := ℕ) (U := UR sig nD τ) (Lvl := ℕ) launch0.win launch0.arr_whole c
      (pdats m) ((pdats m 0 c).share_full fun _ => rfl) (at1 m c) (at2 m c) ((pdats m 0 c).arrAt · cfg0.N)
      (arrays_end0 m c)
      (fun b hb => W2_of m c b fun h => hb (h ▸ Finset.mem_image.mpr ⟨6, Finset.mem_univ _, rfl⟩))
    iintro ⟨Ha, HO, Hg, Hrest⟩
    imodintro
    isplitl [Ha Hrest]
    · iapply hjoin; isplitl [Ha] <;> iassumption
    isplitl [HO]
    · unfold Pipeline.Dat.owesAt Pipeline.owesWithin
      icases HO with ⟨%W, -, HO⟩; iexists W; iexact HO
    iexact Hg

set_option backward.isDefEq.respectTransparency.types false in
/-- Pass two over the thread state: entered with every unscoped buffer at `W2`, left with them at `W3`. -/
def reg1 : RegionSeg (pcfgs (F := F)) adm (pdats m) () defs₀ Variants.none levels level 1 where
  win := launch1.win.to₀
  block_pos := launch1.block_pos
  stage_whole := launch1.stage_whole
  K := PEmpty
  osem k := k.elim
  ho := Pipeline.OwnSemFacts.none _
  hbody c := (body1 (at2 m) c).loose
  hwaits := Pipeline.hwaits_of_owed_zero _ _ _ _ levels level 1 fun _ _ => rfl
  pre c := iprop(StableHlo.held (c : Thread nD τ) (Pipeline.ucRefs τ sig) (W2 m c) ∗ rest c)
  post c := iprop(StableHlo.held (c : Thread nD τ) (Pipeline.ucRefs τ sig) (W3 m c) ∗ rest c)
  X c := iprop(∃ r, prngReg c r)
  Y c := iprop(∃ r, prngReg c r)
  Z c := Pipeline.unscopedRest (Ix := Unit) (Name := ℕ) (U := UR sig nD τ) (Lvl := ℕ) spec1 c (at2 m c)
  hentry c := by
    rw [← Pipeline.unscopedBufs_held (Ix := Unit) (Name := ℕ) (U := UR sig nD τ) (Lvl := ℕ) c (W2 m c), Pipeline.ownSems0_none]
    have hsplit := Pipeline.arrays_of_unscopedBufs (p := 1) (pcfgs (F := F)) adm (pdats m) launch1.win launch1.arr_whole c
      ((pdats m 1 c).share_full fun _ => rfl) (at2 m c) (A1_eq (at2 m) c)
    iintro ⟨⟨Hub, HO, Hg⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hg]; · iexact Hg
    iexact Hrest
  hin c := by
    rw [show (pdats m 1 c).Φ 0 = Pipeline.ΦA spec1 c from rfl]
    unfold Pipeline.ΦA
    iintro ⟨Hg, -, Hr⟩
    isplitl [Hr]; · iexact Hr
    iexact Hg
  hout c := by
    rw [Pipeline.ownSems0_none]
    refine (show (pdats m 1 c).Φ (Fin.last _) ⊢ (Pipeline.ΦA spec1 c : sProp 𝕄) from .rfl).trans ?_
    unfold Pipeline.ΦA
    iintro ⟨Hr, Hg⟩
    isplitl [Hg]; · iexact Hg
    isplitr; · iempintro
    iexact Hr
  hexit c := by
    rw [← Pipeline.unscopedBufs_held (Ix := Unit) (Name := ℕ) (U := UR sig nD τ) (Lvl := ℕ) c (W3 m c)]
    have hjoin := Pipeline.unscopedBufs_of_arrays (p := 1) (pcfgs (F := F)) adm (Ix := Unit) (Name := ℕ) (U := UR sig nD τ) (Lvl := ℕ) launch1.win launch1.arr_whole c
      (pdats m) ((pdats m 1 c).share_full fun _ => rfl) (at2 m c) (at3 m c) ((pdats m 1 c).arrAt · cfg1.N)
      (arrays_end1 m c)
      (fun b hb => W3_of m c b fun h => hb (h ▸ Finset.mem_image.mpr ⟨2, Finset.mem_univ _, rfl⟩))
    iintro ⟨Ha, HO, Hg, Hrest⟩
    imodintro
    isplitl [Ha Hrest]
    · iapply hjoin; isplitl [Ha] <;> iassumption
    isplitl [HO]
    · unfold Pipeline.Dat.owesAt Pipeline.owesWithin
      icases HO with ⟨%W, -, HO⟩; iexists W; iexact HO
    iexact Hg

/-- The host operations before the passes. -/
def host0 : HostSeg (Ix := Unit) (Name := ℕ) (U := UR sig nD τ) (Lvl := ℕ) (pcfgs (F := F)) defs₀ Variants.none levels level :=
  HostSeg.ofOps _ _ _ _ _ (Pipeline.ucRefs τ sig) hostOps0
    (fun op h => Pipeline.sub_ucRefs op ((List.forall_iff_forall_mem.mp hostOps0_sub) op h))
    (fun op h => (List.forall_iff_forall_mem.mp hostOps0_fresh) op h) (V0 m) rest

/-- The reshape after them. -/
def host2 : HostSeg (Ix := Unit) (Name := ℕ) (U := UR sig nD τ) (Lvl := ℕ) (pcfgs (F := F)) defs₀ Variants.none levels level :=
  HostSeg.ofOps _ _ _ _ _ (Pipeline.ucRefs τ sig) hostOps2
    (fun op h => Pipeline.sub_ucRefs op ((List.forall_iff_forall_mem.mp hostOps2_sub) op h))
    (fun op h => (List.forall_iff_forall_mem.mp hostOps2_fresh) op h) (W3 m) rest

/-- The program's four items. -/
abbrev items (_ : Dev nD) : List (Seg (pcfgs (F := F)) adm (pdats m) () defs₀ Variants.none levels level) :=
  [.host (host0 m), .region (reg0 m), .region (reg1 m), .host (host2 m)]

set_option backward.isDefEq.respectTransparency.types false in
/-- From any memory with zero counters every weakly fair execution ends, with the arguments as launched, the result's buffer
    at `W4`, and every counter at zero. -/
theorem run_all (ρ : Dev nD → PrngReg) : θ_run defs (onTc (τ := τ) (main (F := F))) ⟨m, fun _ => 0, ρ⟩ (fun r => (∀ c : Dev nD,
      r.2.mem ((c.tc : Thread nD τ).loc main_v8) = W4 m c main_v8
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) := by
  refine Pipeline.θ_run_regions_kit_dev_sems (pcfgs (F := F)) adm (pdats m) () cellOf_inj emb₁ defs₀ Variants.none levels level m ρ main (items m)
    (fun c Q => by
      rewrite [main_chain c, Seg.run_eq_chain,
        show (items m c).map Seg.prog = [
          StableHlo.seq hostOps0,
          Prog.lift (.customCall (Pipeline.entry 0) ()),
          Prog.lift (.customCall (Pipeline.entry 1) ()),
          StableHlo.seq hostOps2 ] from rfl]
      dsimp (config := { failIfUnchanged := false }) only
      exact .rfl)
    (fun c => by simp only [items, Seg.pipes_host, Seg.pipes_region, Seg.pipes_nil]; decide) (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]; · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ rest c))
    (Tₙ := fun c => StableHlo.held (c : Thread nD τ) (Pipeline.ucRefs τ sig) (W4 m c))
    (hch := fun c => ⟨.rfl, .rfl, .rfl, .rfl, sep_mono .rfl (by iintro ⟨HO, -⟩; iexact HO)⟩)
    (hinit := ?_)
    (QY := fun c s => s.mem ((c.tc : Thread nD τ).loc main_v8) = W4 m c main_v8 ∧ s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3) ∧ s.mem ((c.tc : Thread nD τ).loc main_arg4) = m ((c.tc : Thread nD τ).loc main_arg4) ∧ s.mem ((c.tc : Thread nD τ).loc main_arg5) = m ((c.tc : Thread nD τ).loc main_arg5))
    (hfin := fun c s' => ?_) (hQ := fun _ h hz => ⟨h, funext fun g => hz g (.inr (regions_no_unscoped g.2))⟩)
  · refine Pipeline.initEach levels level fun c => ?_
    rw [show unscopedBufs c (fun b => m ((c : Thread nD τ).loc b)) = StableHlo.held (c : Thread nD τ) (Pipeline.ucRefs τ sig) (V0 m c) from Pipeline.unscopedBufs_held c (V0 m c)]
    iintro ⟨⟨Hh, -, HO, -, Hg, -⟩, -⟩
    imodintro
    isplitl [Hh]; · iexact Hh
    isplitl [HO]; · iexists ∅; iexact HO
    iexists _; iexact Hg
  · unfold StableHlo.held
    iintro ⟨Hh, HSI⟩
    ihave Hr := (pointsTo_read_all (Pipeline.ucRefs τ sig) (fun b => ((c : Thread nD τ).1, b)) (W4 m c) s') $$ [Hh HSI]
    · isplitl [Hh] <;> iassumption
    icases Hr with ⟨%h, HSI⟩
    imodintro
    isplitr
    · ipureintro
      have hr : ∀ (r : Ref sig .tc), ¬ (Proc.devRef (τ := τ) .tc r).isScoped → s'.mem.mem ((c : Thread nD τ).loc r) = W4 m c r := fun r hs =>
        h (Proc.devRef .tc r) (Finset.mem_filter.mpr ⟨StableHlo.devRef_mem_tcRefs r, hs⟩)
      exact ⟨hr main_v8 (by decide), (hr main_arg0 (by decide)).trans (W4_of m c main_arg0 (by decide) (by decide) (by decide) (by decide)),
        (hr main_arg1 (by decide)).trans (W4_of m c main_arg1 (by decide) (by decide) (by decide) (by decide)),
        (hr main_arg2 (by decide)).trans (W4_of m c main_arg2 (by decide) (by decide) (by decide) (by decide)),
        (hr main_arg3 (by decide)).trans (W4_of m c main_arg3 (by decide) (by decide) (by decide) (by decide)),
        (hr main_arg4 (by decide)).trans (W4_of m c main_arg4 (by decide) (by decide) (by decide) (by decide)),
        (hr main_arg5 (by decide)).trans (W4_of m c main_arg5 (by decide) (by decide) (by decide) (by decide))⟩
    · iexact HSI

end Cert.KernelIdeal.Whole

end
-- ==== Proof.RefOps.lean ====
/-
  The reference program as a list of host operations, in four stretches, with what the launch of such a list needs.
-/
module

public import proofs.«01_k».proof.Proof.Gen.ReferenceIdeal
public import Idealize.ShloMosaic.Lib.StableHlo.Run

@[expose] public section

noncomputable section

namespace Cert.ReferenceIdeal.Whole

open Cert.ReferenceIdeal Cert.ReferenceIdeal.Gen Idealize.ShloMosaic Idealize.ShloMosaic.TcCoe Idealize.SL.Sem Idealize.ShloMosaic.StableHlo

variable {F : FTy → Type} [FloatOps F]

/-- The reference's first operations: the two clipped scales and the activation. -/
abbrev opsA : List (HloOp τ sig (Elt F)) :=
  [ unary main_arg1 main_v0 (Host.exp : (⟨S_, .f32⟩ : BufTy).Contents (Elt F) → (⟨S_, .f32⟩ : BufTy).Contents (Elt F)),
    nullary main_cst (constant S_ .f32 0x3C23D70A#32),
    nullary main_cst_0 (constant S_ .f32 0x40A00000#32),
    TRef.unary (.of main_cst) (.of main_call0_v0) id,
    TRef.binary (.of main_call0_v0) (.of main_v0) (.of main_call0_v1) maximumf,
    TRef.unary (.of main_cst_0) (.of main_call0_v2) id,
    TRef.binary (.of main_call0_v2) (.of main_call0_v1) (.of main_v1) minimumf,
    unary main_arg2 main_v2 (Host.exp : (⟨S_, .f32⟩ : BufTy).Contents (Elt F) → (⟨S_, .f32⟩ : BufTy).Contents (Elt F)),
    nullary main_cst_1 (constant S_ .f32 0x3F000000#32),
    nullary main_cst_2 (constant S_ .f32 0x41A00000#32),
    TRef.unary (.of main_cst_1) (.of main_call1_v0) id,
    TRef.binary (.of main_call1_v0) (.of main_v2) (.of main_call1_v1) maximumf,
    TRef.unary (.of main_cst_2) (.of main_call1_v2) id,
    TRef.binary (.of main_call1_v2) (.of main_call1_v1) (.of main_v3) minimumf,
    nullary main_cst_3 (constant S_ .f32 0x3F000000#32),
    unary main_cst_3 main_v4 (broadcastInDim S4x8192x1024 ![] bcast_S_S4x8192x1024 : (⟨S_, .f32⟩ : BufTy).Contents (Elt F) → (⟨S4x8192x1024, .f32⟩ : BufTy).Contents (Elt F)),
    binary main_v4 main_arg0 main_v5 (mulf : (⟨S4x8192x1024, .f32⟩ : BufTy).Contents (Elt F) → (⟨S4x8192x1024, .f32⟩ : BufTy).Contents (Elt F) → (⟨S4x8192x1024, .f32⟩ : BufTy).Contents (Elt F)),
    binary main_arg0 main_arg0 main_v6 (mulf : (⟨S4x8192x1024, .f32⟩ : BufTy).Contents (Elt F) → (⟨S4x8192x1024, .f32⟩ : BufTy).Contents (Elt F) → (⟨S4x8192x1024, .f32⟩ : BufTy).Contents (Elt F)),
    binary main_v6 main_arg0 main_v7 (mulf : (⟨S4x8192x1024, .f32⟩ : BufTy).Contents (Elt F) → (⟨S4x8192x1024, .f32⟩ : BufTy).Contents (Elt F) → (⟨S4x8192x1024, .f32⟩ : BufTy).Contents (Elt F)),
    nullary main_cst_4 (constant S_ .f32 0x3D372713#32),
    unary main_cst_4 main_v8 (broadcastInDim S4x8192x1024 ![] bcast_S_S4x8192x1024 : (⟨S_, .f32⟩ : BufTy).Contents (Elt F) → (⟨S4x8192x1024, .f32⟩ : BufTy).Contents (Elt F)),
    binary main_v8 main_v7 main_v9 (mulf : (⟨S4x8192x1024, .f32⟩ : BufTy).Contents (Elt F) → (⟨S4x8192x1024, .f32⟩ : BufTy).Contents (Elt F) → (⟨S4x8192x1024, .f32⟩ : BufTy).Contents (Elt F)),
    binary main_arg0 main_v9 main_v10 (addf : (⟨S4x8192x1024, .f32⟩ : BufTy).Contents (Elt F) → (⟨S4x8192x1024, .f32⟩ : BufTy).Contents (Elt F) → (⟨S4x8192x1024, .f32⟩ : BufTy).Contents (Elt F)),
    nullary main_cst_5 (constant S_ .f32 0x3F4C422A#32),
    unary main_cst_5 main_v11 (broadcastInDim S4x8192x1024 ![] bcast_S_S4x8192x1024 : (⟨S_, .f32⟩ : BufTy).Contents (Elt F) → (⟨S4x8192x1024, .f32⟩ : BufTy).Contents (Elt F)),
    binary main_v11 main_v10 main_v12 (mulf : (⟨S4x8192x1024, .f32⟩ : BufTy).Contents (Elt F) → (⟨S4x8192x1024, .f32⟩ : BufTy).Contents (Elt F) → (⟨S4x8192x1024, .f32⟩ : BufTy).Contents (Elt F)),
    unary main_v12 main_v13 (Host.tanh : (⟨S4x8192x1024, .f32⟩ : BufTy).Contents (Elt F) → (⟨S4x8192x1024, .f32⟩ : BufTy).Contents (Elt F)),
    nullary main_cst_6 (constant S_ .f32 0x3F800000#32),
    unary main_cst_6 main_v14 (broadcastInDim S4x8192x1024 ![] bcast_S_S4x8192x1024 : (⟨S_, .f32⟩ : BufTy).Contents (Elt F) → (⟨S4x8192x1024, .f32⟩ : BufTy).Contents (Elt F)),
    binary main_v14 main_v13 main_v15 (addf : (⟨S4x8192x1024, .f32⟩ : BufTy).Contents (Elt F) → (⟨S4x8192x1024, .f32⟩ : BufTy).Contents (Elt F) → (⟨S4x8192x1024, .f32⟩ : BufTy).Contents (Elt F)),
    binary main_v5 main_v15 main_v16 (mulf : (⟨S4x8192x1024, .f32⟩ : BufTy).Contents (Elt F) → (⟨S4x8192x1024, .f32⟩ : BufTy).Contents (Elt F) → (⟨S4x8192x1024, .f32⟩ : BufTy).Contents (Elt F)) ]

/-- The operations from the activation to the nearest stored vector's index. -/
abbrev opsB : List (HloOp τ sig (Elt F)) :=
  [ reshape main_v16 main_v17 (rfl : (.f32 : EltTy) = .f32) shapeCasts_S4x8192x1024_S32768x1024,
    nullary main_cst_7 (constant S_ .f32 0x00000000#32),
    binary main_v17 main_cst_7 main_v18 ((fun x v => Host.reduceAdd x v reducesTo_S32768x1024_S1024_d0 h_S_) : (⟨S32768x1024, .f32⟩ : BufTy).Contents (Elt F) → (⟨S_, .f32⟩ : BufTy).Contents (Elt F) → (⟨S1024, .f32⟩ : BufTy).Contents (Elt F)),
    nullary main_cst_8 (constant S_ .f32 0x47000000#32),
    unary main_cst_8 main_v19 (broadcastInDim S1024 ![] bcast_S_S1024 : (⟨S_, .f32⟩ : BufTy).Contents (Elt F) → (⟨S1024, .f32⟩ : BufTy).Contents (Elt F)),
    binary main_v18 main_v19 main_v20 (Host.divf : (⟨S1024, .f32⟩ : BufTy).Contents (Elt F) → (⟨S1024, .f32⟩ : BufTy).Contents (Elt F) → (⟨S1024, .f32⟩ : BufTy).Contents (Elt F)),
    TRef.binary (.of main_v20) (.of main_v20) (.of main_call2_v0) mulf,
    TRef.nullary (.of main_call2_cst) (constant S_ .f32 0x00000000#32),
    TRef.binary (.of main_call2_v0) (.of main_call2_cst) (.of main_call2_v1) (fun x v => Host.reduceAdd x v reducesTo_S1024_S_d0 h_S_),
    TRef.unary (.of main_call2_v1) (.of main_v21) Host.sqrt,
    nullary main_cst_9 (constant S_ .f32 0x2B8CBCCC#32),
    binary main_v21 main_cst_9 main_v22 (maximumf : (⟨S_, .f32⟩ : BufTy).Contents (Elt F) → (⟨S_, .f32⟩ : BufTy).Contents (Elt F) → (⟨S_, .f32⟩ : BufTy).Contents (Elt F)),
    unary main_v22 main_v23 (broadcastInDim S1024 ![] bcast_S_S1024 : (⟨S_, .f32⟩ : BufTy).Contents (Elt F) → (⟨S1024, .f32⟩ : BufTy).Contents (Elt F)),
    binary main_v20 main_v23 main_v24 (Host.divf : (⟨S1024, .f32⟩ : BufTy).Contents (Elt F) → (⟨S1024, .f32⟩ : BufTy).Contents (Elt F) → (⟨S1024, .f32⟩ : BufTy).Contents (Elt F)),
    binary main_arg3 main_v24 main_v25 ((fun l r => Host.dotGeneral dot_S512x1024_S1024_S512_1_0_0_n_n_n none l r) : (⟨S512x1024, .f32⟩ : BufTy).Contents (Elt F) → (⟨S1024, .f32⟩ : BufTy).Contents (Elt F) → (⟨S512, .f32⟩ : BufTy).Contents (Elt F)),
    nullary main_cst_10 (constant S_ .f32 0xBF800000#32),
    TRef.unary (.of main_cst_10) (.of main_call3_v0) id,
    TRef.unary (.of main_call3_v0) (.of main_call3_v1) (broadcastInDim S512 ![] bcast_S_S512),
    TRef.ternary (.of main_arg5) (.of main_v25) (.of main_call3_v1) (.of main_v26) select,
    TRef.nullary (.of main_call4_v0) (iotaInDim S512 32 0),
    TRef.nullary (.of main_call4_cst) (constant S_ .f32 0xFF800000#32),
    TRef.nullary (.of main_call4_c) (constantI S_ 32 0#32),
    TRef.quaternary (.of main_v26) (.of main_call4_v0) (.of main_call4_cst) (.of main_call4_c) (.of main_call4_v1_0) (fun x y u v j => (Host.argReduce reducer_argmax_f32_i32 x y u v reducesTo_S512_S_d0 h_S_ j).1),
    TRef.quaternary (.of main_v26) (.of main_call4_v0) (.of main_call4_cst) (.of main_call4_c) (.of main_v27) (fun x y u v j => (Host.argReduce reducer_argmax_f32_i32 x y u v reducesTo_S512_S_d0 h_S_ j).2) ]

/-- The operations from that index to the fire multiplier. -/
abbrev opsC : List (HloOp τ sig (Elt F)) :=
  [ nullary main_c (constantI S_ 32 0#32),
    binary main_v27 main_c main_v28 (cmpi .slt : (⟨S_, .i32⟩ : BufTy).Contents (Elt F) → (⟨S_, .i32⟩ : BufTy).Contents (Elt F) → (⟨S_, .i1⟩ : BufTy).Contents (Elt F)),
    nullary main_c_11 (constantI S_ 32 512#32),
    binary main_v27 main_c_11 main_v29 (addi : (⟨S_, .i32⟩ : BufTy).Contents (Elt F) → (⟨S_, .i32⟩ : BufTy).Contents (Elt F) → (⟨S_, .i32⟩ : BufTy).Contents (Elt F)),
    ternary main_v28 main_v29 main_v27 main_v30 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    unaryIndexed main_v26 ![main_v30] ⟨S_, .i32⟩ main_v31 ((fun x i => Host.dynamicSlice S1 x (fun k => (i k (Shape.Idx.first h_S_)).toInt) sliceFits_S512_S1) : (⟨S512, .f32⟩ : BufTy).Contents (Elt F) → (Fin 1 → (⟨S_, .i32⟩ : BufTy).Contents (Elt F)) → (⟨S1, .f32⟩ : BufTy).Contents (Elt F)),
    reshape main_v31 main_v32 (rfl : (.f32 : EltTy) = .f32) shapeCasts_S1_S_,
    unary main_arg5 main_v33 ((extui 32 · natLt_1_32) : (⟨S512, .i1⟩ : BufTy).Contents (Elt F) → (⟨S512, .i32⟩ : BufTy).Contents (Elt F)),
    nullary main_c_12 (constantI S_ 32 0#32),
    binary main_v33 main_c_12 main_v34 ((fun x v => Host.reduce IntOp.addi x v reducesTo_S512_S_d0 h_S_) : (⟨S512, .i32⟩ : BufTy).Contents (Elt F) → (⟨S_, .i32⟩ : BufTy).Contents (Elt F) → (⟨S_, .i32⟩ : BufTy).Contents (Elt F)),
    nullary main_cst_13 (constant S_ .f32 0x00000000#32),
    TRef.unary (.of main_cst_13) (.of main_call5_v0) id,
    TRef.unary (.of main_call5_v0) (.of main_call5_v1) (broadcastInDim S512 ![] bcast_S_S512),
    TRef.ternary (.of main_arg5) (.of main_v25) (.of main_call5_v1) (.of main_v35) select,
    nullary main_cst_14 (constant S_ .f32 0x00000000#32),
    binary main_v35 main_cst_14 main_v36 ((fun x v => Host.reduceAdd x v reducesTo_S512_S_d0 h_S_) : (⟨S512, .f32⟩ : BufTy).Contents (Elt F) → (⟨S_, .f32⟩ : BufTy).Contents (Elt F) → (⟨S_, .f32⟩ : BufTy).Contents (Elt F)),
    nullary main_c_15 (constantI S_ 32 0#32),
    binary main_v27 main_c_15 main_v37 (cmpi .slt : (⟨S_, .i32⟩ : BufTy).Contents (Elt F) → (⟨S_, .i32⟩ : BufTy).Contents (Elt F) → (⟨S_, .i1⟩ : BufTy).Contents (Elt F)),
    nullary main_c_16 (constantI S_ 32 512#32),
    binary main_v27 main_c_16 main_v38 (addi : (⟨S_, .i32⟩ : BufTy).Contents (Elt F) → (⟨S_, .i32⟩ : BufTy).Contents (Elt F) → (⟨S_, .i32⟩ : BufTy).Contents (Elt F)),
    ternary main_v37 main_v38 main_v27 main_v39 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    unaryIndexed main_v25 ![main_v39] ⟨S_, .i32⟩ main_v40 ((fun x i => Host.dynamicSlice S1 x (fun k => (i k (Shape.Idx.first h_S_)).toInt) sliceFits_S512_S1) : (⟨S512, .f32⟩ : BufTy).Contents (Elt F) → (Fin 1 → (⟨S_, .i32⟩ : BufTy).Contents (Elt F)) → (⟨S1, .f32⟩ : BufTy).Contents (Elt F)),
    reshape main_v40 main_v41 (rfl : (.f32 : EltTy) = .f32) shapeCasts_S1_S_,
    binary main_v36 main_v41 main_v42 (subf : (⟨S_, .f32⟩ : BufTy).Contents (Elt F) → (⟨S_, .f32⟩ : BufTy).Contents (Elt F) → (⟨S_, .f32⟩ : BufTy).Contents (Elt F)),
    nullary main_c_17 (constantI S_ 32 1#32),
    binary main_v34 main_c_17 main_v43 (subi : (⟨S_, .i32⟩ : BufTy).Contents (Elt F) → (⟨S_, .i32⟩ : BufTy).Contents (Elt F) → (⟨S_, .i32⟩ : BufTy).Contents (Elt F)),
    nullary main_c_18 (constantI S_ 32 1#32),
    binary main_v43 main_c_18 main_v44 (maxsi : (⟨S_, .i32⟩ : BufTy).Contents (Elt F) → (⟨S_, .i32⟩ : BufTy).Contents (Elt F) → (⟨S_, .i32⟩ : BufTy).Contents (Elt F)),
    unary main_v44 main_v45 (sitofp .f32 : (⟨S_, .i32⟩ : BufTy).Contents (Elt F) → (⟨S_, .f32⟩ : BufTy).Contents (Elt F)),
    binary main_v42 main_v45 main_v46 (Host.divf : (⟨S_, .f32⟩ : BufTy).Contents (Elt F) → (⟨S_, .f32⟩ : BufTy).Contents (Elt F) → (⟨S_, .f32⟩ : BufTy).Contents (Elt F)),
    nullary main_c_19 (constantI S_ 32 1#32),
    binary main_v34 main_c_19 main_v47 (cmpi .sgt : (⟨S_, .i32⟩ : BufTy).Contents (Elt F) → (⟨S_, .i32⟩ : BufTy).Contents (Elt F) → (⟨S_, .i1⟩ : BufTy).Contents (Elt F)),
    binary main_v32 main_v46 main_v48 (subf : (⟨S_, .f32⟩ : BufTy).Contents (Elt F) → (⟨S_, .f32⟩ : BufTy).Contents (Elt F) → (⟨S_, .f32⟩ : BufTy).Contents (Elt F)),
    nullary main_cst_20 (constant S_ .f32 0x00000000#32),
    TRef.ternary (.of main_v47) (.of main_v48) (.of main_cst_20) (.of main_v49) select,
    nullary main_cst_21 (constant S_ .f32 0x3F59999A#32),
    binary main_v32 main_cst_21 main_v50 (cmpf .ogt : (⟨S_, .f32⟩ : BufTy).Contents (Elt F) → (⟨S_, .f32⟩ : BufTy).Contents (Elt F) → (⟨S_, .i1⟩ : BufTy).Contents (Elt F)),
    nullary main_cst_22 (constant S_ .f32 0x40000000#32),
    nullary main_cst_23 (constant S_ .f32 0x3F800000#32),
    TRef.ternary (.of main_v50) (.of main_cst_22) (.of main_cst_23) (.of main_v51) select,
    unary main_v51 main_v52 (id : (⟨S_, .f32⟩ : BufTy).Contents (Elt F) → (⟨S_, .f32⟩ : BufTy).Contents (Elt F)) ]

/-- The operations from the multiplier to the result. -/
abbrev opsD : List (HloOp τ sig (Elt F)) :=
  [ nullary main_c_24 (constantI S_ 32 0#32),
    binary main_v27 main_c_24 main_v53 (cmpi .slt : (⟨S_, .i32⟩ : BufTy).Contents (Elt F) → (⟨S_, .i32⟩ : BufTy).Contents (Elt F) → (⟨S_, .i1⟩ : BufTy).Contents (Elt F)),
    nullary main_c_25 (constantI S_ 32 512#32),
    binary main_v27 main_c_25 main_v54 (addi : (⟨S_, .i32⟩ : BufTy).Contents (Elt F) → (⟨S_, .i32⟩ : BufTy).Contents (Elt F) → (⟨S_, .i32⟩ : BufTy).Contents (Elt F)),
    ternary main_v53 main_v54 main_v27 main_v55 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    unaryIndexed main_arg4 ![main_v55] ⟨S_, .i32⟩ main_v56 ((fun x i => Host.dynamicSlice S1 x (fun k => (i k (Shape.Idx.first h_S_)).toInt) sliceFits_S512_S1) : (⟨S512, .f32⟩ : BufTy).Contents (Elt F) → (Fin 1 → (⟨S_, .i32⟩ : BufTy).Contents (Elt F)) → (⟨S1, .f32⟩ : BufTy).Contents (Elt F)),
    reshape main_v56 main_v57 (rfl : (.f32 : EltTy) = .f32) shapeCasts_S1_S_,
    binary main_v57 main_v52 main_v58 (mulf : (⟨S_, .f32⟩ : BufTy).Contents (Elt F) → (⟨S_, .f32⟩ : BufTy).Contents (Elt F) → (⟨S_, .f32⟩ : BufTy).Contents (Elt F)),
    nullary main_c_26 (constantI S_ 32 0#32),
    binary main_v27 main_c_26 main_v59 (cmpi .slt : (⟨S_, .i32⟩ : BufTy).Contents (Elt F) → (⟨S_, .i32⟩ : BufTy).Contents (Elt F) → (⟨S_, .i1⟩ : BufTy).Contents (Elt F)),
    nullary main_c_27 (constantI S_ 32 512#32),
    binary main_v27 main_c_27 main_v60 (addi : (⟨S_, .i32⟩ : BufTy).Contents (Elt F) → (⟨S_, .i32⟩ : BufTy).Contents (Elt F) → (⟨S_, .i32⟩ : BufTy).Contents (Elt F)),
    ternary main_v59 main_v60 main_v27 main_v61 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    unary main_v61 main_v62 (broadcastInDim S1 ![] bcast_S_S1 : (⟨S_, .i32⟩ : BufTy).Contents (Elt F) → (⟨S1, .i32⟩ : BufTy).Contents (Elt F)),
    ternary main_arg4 main_v62 main_v58 main_v63 ((fun x i u => Host.scatter scatter_S512_S1_S__n_0_0_0 (fun _ b => b) x i u) : (⟨S512, .f32⟩ : BufTy).Contents (Elt F) → (⟨S1, .i32⟩ : BufTy).Contents (Elt F) → (⟨S_, .f32⟩ : BufTy).Contents (Elt F) → (⟨S512, .f32⟩ : BufTy).Contents (Elt F)),
    nullary main_c_28 (constantI S_ 32 0#32),
    binary main_v27 main_c_28 main_v64 (cmpi .slt : (⟨S_, .i32⟩ : BufTy).Contents (Elt F) → (⟨S_, .i32⟩ : BufTy).Contents (Elt F) → (⟨S_, .i1⟩ : BufTy).Contents (Elt F)),
    nullary main_c_29 (constantI S_ 32 512#32),
    binary main_v27 main_c_29 main_v65 (addi : (⟨S_, .i32⟩ : BufTy).Contents (Elt F) → (⟨S_, .i32⟩ : BufTy).Contents (Elt F) → (⟨S_, .i32⟩ : BufTy).Contents (Elt F)),
    ternary main_v64 main_v65 main_v27 main_v66 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    unaryIndexed main_v63 ![main_v66] ⟨S_, .i32⟩ main_v67 ((fun x i => Host.dynamicSlice S1 x (fun k => (i k (Shape.Idx.first h_S_)).toInt) sliceFits_S512_S1) : (⟨S512, .f32⟩ : BufTy).Contents (Elt F) → (Fin 1 → (⟨S_, .i32⟩ : BufTy).Contents (Elt F)) → (⟨S1, .f32⟩ : BufTy).Contents (Elt F)),
    reshape main_v67 main_v68 (rfl : (.f32 : EltTy) = .f32) shapeCasts_S1_S_,
    binary main_v3 main_v49 main_v69 (mulf : (⟨S_, .f32⟩ : BufTy).Contents (Elt F) → (⟨S_, .f32⟩ : BufTy).Contents (Elt F) → (⟨S_, .f32⟩ : BufTy).Contents (Elt F)),
    unary main_v69 main_v70 (Host.negf : (⟨S_, .f32⟩ : BufTy).Contents (Elt F) → (⟨S_, .f32⟩ : BufTy).Contents (Elt F)),
    unary main_v70 main_v71 (Host.exp : (⟨S_, .f32⟩ : BufTy).Contents (Elt F) → (⟨S_, .f32⟩ : BufTy).Contents (Elt F)),
    nullary main_cst_30 (constant S_ .f32 0x3F800000#32),
    binary main_cst_30 main_v71 main_v72 (addf : (⟨S_, .f32⟩ : BufTy).Contents (Elt F) → (⟨S_, .f32⟩ : BufTy).Contents (Elt F) → (⟨S_, .f32⟩ : BufTy).Contents (Elt F)),
    nullary main_cst_31 (constant S_ .f32 0x3F800000#32),
    binary main_cst_31 main_v72 main_v73 (Host.divf : (⟨S_, .f32⟩ : BufTy).Contents (Elt F) → (⟨S_, .f32⟩ : BufTy).Contents (Elt F) → (⟨S_, .f32⟩ : BufTy).Contents (Elt F)),
    nullary main_cst_32 (constant S_ .f32 0x3F800000#32),
    binary main_v68 main_cst_32 main_v74 (subf : (⟨S_, .f32⟩ : BufTy).Contents (Elt F) → (⟨S_, .f32⟩ : BufTy).Contents (Elt F) → (⟨S_, .f32⟩ : BufTy).Contents (Elt F)),
    binary main_v1 main_v74 main_v75 (mulf : (⟨S_, .f32⟩ : BufTy).Contents (Elt F) → (⟨S_, .f32⟩ : BufTy).Contents (Elt F) → (⟨S_, .f32⟩ : BufTy).Contents (Elt F)),
    binary main_v75 main_v73 main_v76 (mulf : (⟨S_, .f32⟩ : BufTy).Contents (Elt F) → (⟨S_, .f32⟩ : BufTy).Contents (Elt F) → (⟨S_, .f32⟩ : BufTy).Contents (Elt F)),
    nullary main_cst_33 (constant S_ .f32 0x3F800000#32),
    binary main_cst_33 main_v76 main_v77 (addf : (⟨S_, .f32⟩ : BufTy).Contents (Elt F) → (⟨S_, .f32⟩ : BufTy).Contents (Elt F) → (⟨S_, .f32⟩ : BufTy).Contents (Elt F)),
    nullary main_cst_34 (constant S_ .f32 0x41000000#32),
    binary main_v77 main_cst_34 main_v78 (minimumf : (⟨S_, .f32⟩ : BufTy).Contents (Elt F) → (⟨S_, .f32⟩ : BufTy).Contents (Elt F) → (⟨S_, .f32⟩ : BufTy).Contents (Elt F)),
    unary main_v78 main_v79 (broadcastInDim S4x8192x1024 ![] bcast_S_S4x8192x1024 : (⟨S_, .f32⟩ : BufTy).Contents (Elt F) → (⟨S4x8192x1024, .f32⟩ : BufTy).Contents (Elt F)),
    binary main_v16 main_v79 main_v80 (mulf : (⟨S4x8192x1024, .f32⟩ : BufTy).Contents (Elt F) → (⟨S4x8192x1024, .f32⟩ : BufTy).Contents (Elt F) → (⟨S4x8192x1024, .f32⟩ : BufTy).Contents (Elt F)) ]

/-- @main's operations, in order. -/
abbrev ops : List (HloOp τ sig (Elt F)) := opsA ++ (opsB ++ (opsC ++ opsD))

set_option maxRecDepth 8192 in
set_option maxHeartbeats 4000000 in
/-- @main runs the operations in order. -/
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide

set_option maxRecDepth 8192 in
theorem opsA_sub : (opsA : List (HloOp τ sig (Elt F))).Forall fun op => op.bufs ⊆ tcRefs τ sig :=
  ⟨unary_bufs_sub .., nullary_bufs_sub .., nullary_bufs_sub .., unary_bufs_sub .., binary_bufs_sub .., unary_bufs_sub .., binary_bufs_sub .., unary_bufs_sub .., nullary_bufs_sub .., nullary_bufs_sub .., unary_bufs_sub .., binary_bufs_sub .., unary_bufs_sub .., binary_bufs_sub .., nullary_bufs_sub .., unary_bufs_sub .., binary_bufs_sub .., binary_bufs_sub .., binary_bufs_sub .., nullary_bufs_sub .., unary_bufs_sub .., binary_bufs_sub .., binary_bufs_sub .., nullary_bufs_sub .., unary_bufs_sub .., binary_bufs_sub .., unary_bufs_sub .., nullary_bufs_sub .., unary_bufs_sub .., binary_bufs_sub .., binary_bufs_sub ..⟩

theorem opsA_fresh : ∀ op ∈ (opsA : List (HloOp τ sig (Elt F))), op.fresh = ∅ := by
  intro _ h; (repeat (cases h with | head => rfl | tail _ h => ?_)); exact nomatch h

set_option maxRecDepth 8192 in
theorem opsB_sub : (opsB : List (HloOp τ sig (Elt F))).Forall fun op => op.bufs ⊆ tcRefs τ sig :=
  ⟨reshape_bufs_sub .., nullary_bufs_sub .., binary_bufs_sub .., nullary_bufs_sub .., unary_bufs_sub .., binary_bufs_sub .., binary_bufs_sub .., nullary_bufs_sub .., binary_bufs_sub .., unary_bufs_sub .., nullary_bufs_sub .., binary_bufs_sub .., unary_bufs_sub .., binary_bufs_sub .., binary_bufs_sub .., nullary_bufs_sub .., unary_bufs_sub .., unary_bufs_sub .., ternary_bufs_sub .., nullary_bufs_sub .., nullary_bufs_sub .., nullary_bufs_sub .., quaternary_bufs_sub .., quaternary_bufs_sub ..⟩

theorem opsB_fresh : ∀ op ∈ (opsB : List (HloOp τ sig (Elt F))), op.fresh = ∅ := by
  intro _ h; (repeat (cases h with | head => rfl | tail _ h => ?_)); exact nomatch h

set_option maxRecDepth 8192 in
theorem opsC_sub : (opsC : List (HloOp τ sig (Elt F))).Forall fun op => op.bufs ⊆ tcRefs τ sig :=
  ⟨nullary_bufs_sub .., binary_bufs_sub .., nullary_bufs_sub .., binary_bufs_sub .., ternary_bufs_sub .., unaryIndexed_bufs_sub .., reshape_bufs_sub .., unary_bufs_sub .., nullary_bufs_sub .., binary_bufs_sub .., nullary_bufs_sub .., unary_bufs_sub .., unary_bufs_sub .., ternary_bufs_sub .., nullary_bufs_sub .., binary_bufs_sub .., nullary_bufs_sub .., binary_bufs_sub .., nullary_bufs_sub .., binary_bufs_sub .., ternary_bufs_sub .., unaryIndexed_bufs_sub .., reshape_bufs_sub .., binary_bufs_sub .., nullary_bufs_sub .., binary_bufs_sub .., nullary_bufs_sub .., binary_bufs_sub .., unary_bufs_sub .., binary_bufs_sub .., nullary_bufs_sub .., binary_bufs_sub .., binary_bufs_sub .., nullary_bufs_sub .., ternary_bufs_sub .., nullary_bufs_sub .., binary_bufs_sub .., nullary_bufs_sub .., nullary_bufs_sub .., ternary_bufs_sub .., unary_bufs_sub ..⟩

theorem opsC_fresh : ∀ op ∈ (opsC : List (HloOp τ sig (Elt F))), op.fresh = ∅ := by
  intro _ h; (repeat (cases h with | head => rfl | tail _ h => ?_)); exact nomatch h

set_option maxRecDepth 8192 in
theorem opsD_sub : (opsD : List (HloOp τ sig (Elt F))).Forall fun op => op.bufs ⊆ tcRefs τ sig :=
  ⟨nullary_bufs_sub .., binary_bufs_sub .., nullary_bufs_sub .., binary_bufs_sub .., ternary_bufs_sub .., unaryIndexed_bufs_sub .., reshape_bufs_sub .., binary_bufs_sub .., nullary_bufs_sub .., binary_bufs_sub .., nullary_bufs_sub .., binary_bufs_sub .., ternary_bufs_sub .., unary_bufs_sub .., ternary_bufs_sub .., nullary_bufs_sub .., binary_bufs_sub .., nullary_bufs_sub .., binary_bufs_sub .., ternary_bufs_sub .., unaryIndexed_bufs_sub .., reshape_bufs_sub .., binary_bufs_sub .., unary_bufs_sub .., unary_bufs_sub .., nullary_bufs_sub .., binary_bufs_sub .., nullary_bufs_sub .., binary_bufs_sub .., nullary_bufs_sub .., binary_bufs_sub .., binary_bufs_sub .., binary_bufs_sub .., nullary_bufs_sub .., binary_bufs_sub .., nullary_bufs_sub .., binary_bufs_sub .., unary_bufs_sub .., binary_bufs_sub ..⟩

theorem opsD_fresh : ∀ op ∈ (opsD : List (HloOp τ sig (Elt F))), op.fresh = ∅ := by
  intro _ h; (repeat (cases h with | head => rfl | tail _ h => ?_)); exact nomatch h

/-- Every operation stays within the device's buffers. -/
theorem ops_sub : (ops : List (HloOp τ sig (Elt F))).Forall fun op => op.bufs ⊆ tcRefs τ sig :=
  List.forall_append.2 ⟨opsA_sub, List.forall_append.2 ⟨opsB_sub, List.forall_append.2 ⟨opsC_sub, opsD_sub⟩⟩⟩

/-- Every operation determines its results. -/
theorem ops_fresh : ∀ op ∈ (ops : List (HloOp τ sig (Elt F))), op.fresh = ∅ := by
  intro op h
  rcases List.mem_append.1 h with h | h
  · exact opsA_fresh op h
  rcases List.mem_append.1 h with h | h
  · exact opsB_fresh op h
  rcases List.mem_append.1 h with h | h
  · exact opsC_fresh op h
  · exact opsD_fresh op h

end Cert.ReferenceIdeal.Whole

end
-- ==== Proof.RefVal.lean ====
/-
  The reference's value, function by function: the activation, the mean direction, the similarities to the stored
  directions, the nearest one, and the gate the activation is scaled by.
-/
module

public import proofs.«01_k».proof.Proof.Gen.ReferenceIdeal

@[expose] public section

noncomputable section

namespace Cert.ReferenceIdeal.Whole

open Cert.ReferenceIdeal Cert.ReferenceIdeal.Gen Idealize.ShloMosaic Idealize.ShloMosaic.TcCoe

variable {F : FTy → Type} [FloatOps F]

/-- The arrays of shape `s` with entries of type `e`. -/
abbrev Arr (F : FTy → Type) (s : Shape) (e : EltTy) : Type := BufTy.Contents (Elt F) (⟨s, e⟩ : BufTy)

/-- The exponential of a scalar, clipped to `[lo, hi]`. -/
def clipExp (lo hi : BitVec 32) (a : Arr F S_ .f32) : Arr F S_ .f32 :=
  minimumf (id (constant S_ .f32 hi)) (maximumf (id (constant S_ .f32 lo)) (Host.exp a))

/-- The activation (the tanh form of gelu). -/
def act (x : Arr F S4x8192x1024 .f32) : Arr F S4x8192x1024 .f32 :=
  mulf (mulf (broadcastInDim S4x8192x1024 ![] bcast_S_S4x8192x1024 (constant S_ .f32 0x3F000000#32)) x)
    (addf (broadcastInDim S4x8192x1024 ![] bcast_S_S4x8192x1024 (constant S_ .f32 0x3F800000#32))
      (Host.tanh (mulf (broadcastInDim S4x8192x1024 ![] bcast_S_S4x8192x1024 (constant S_ .f32 0x3F4C422A#32))
        (addf x (mulf (broadcastInDim S4x8192x1024 ![] bcast_S_S4x8192x1024 (constant S_ .f32 0x3D372713#32))
          (mulf (mulf x x) x))))))

/-- The activation's mean over all its rows. -/
def mean (y : Arr F S4x8192x1024 .f32) : Arr F S1024 .f32 :=
  Host.divf (Host.reduceAdd (shapeCast S32768x1024 y shapeCasts_S4x8192x1024_S32768x1024) (constant S_ .f32 0x00000000#32)
      reducesTo_S32768x1024_S1024_d0 h_S_)
    (broadcastInDim S1024 ![] bcast_S_S1024 (constant S_ .f32 0x47000000#32))

/-- The Euclidean norm of a row. -/
def norm (m : Arr F S1024 .f32) : Arr F S_ .f32 :=
  Host.sqrt (Host.reduceAdd (mulf m m) (constant S_ .f32 0x00000000#32) reducesTo_S1024_S_d0 h_S_)

/-- A row divided by its norm, the norm not below the threshold. -/
def unit (m : Arr F S1024 .f32) : Arr F S1024 .f32 :=
  Host.divf m (broadcastInDim S1024 ![] bcast_S_S1024 (maximumf (norm m) (constant S_ .f32 0x2B8CBCCC#32)))

/-- The stored directions' inner products with a row. -/
def sims (b : Arr F S512x1024 .f32) (q : Arr F S1024 .f32) : Arr F S512 .f32 :=
  Host.dotGeneral dot_S512x1024_S1024_S512_1_0_0_n_n_n none b q

/-- `v` where the mask is set, the word `w` elsewhere. -/
def masked (w : BitVec 32) (k : Arr F S512 .i1) (v : Arr F S512 .f32) : Arr F S512 .f32 :=
  select k v (broadcastInDim S512 ![] bcast_S_S512 (id (constant S_ .f32 w)))

/-- The first index of a vector's greatest entry. -/
def argmax (v : Arr F S512 .f32) : Arr F S_ .i32 :=
  fun j => (Host.argReduce reducer_argmax_f32_i32 v (iotaInDim S512 32 0) (constant S_ .f32 0xFF800000#32)
    (constantI S_ 32 0#32) reducesTo_S512_S_d0 h_S_ j).2

/-- An index counted from the end when negative. -/
def wrap (n : Arr F S_ .i32) : Arr F S_ .i32 :=
  select (cmpi .slt n (constantI S_ 32 0#32)) (addi n (constantI S_ 32 512#32)) n

/-- A vector's entry at an index. -/
def pick (v : Arr F S512 .f32) (n : Arr F S_ .i32) : Arr F S_ .f32 :=
  shapeCast S_ (Host.dynamicSlice S1 v (fun k => ((![wrap n] : Fin 1 → Arr F S_ .i32) k (Shape.Idx.first h_S_)).toInt) sliceFits_S512_S1) shapeCasts_S1_S_

/-- The number of the mask's set entries. -/
def count (k : Arr F S512 .i1) : Arr F S_ .i32 :=
  Host.reduce IntOp.addi (extui 32 k natLt_1_32) (constantI S_ 32 0#32) reducesTo_S512_S_d0 h_S_

/-- How far the greatest similarity stands above the mean of the others, 0 when there is no other. -/
def contrast (k : Arr F S512 .i1) (s sm : Arr F S512 .f32) (n : Arr F S_ .i32) : Arr F S_ .f32 :=
  select (cmpi .sgt (count k) (constantI S_ 32 1#32))
    (subf (pick sm n)
      (Host.divf (subf (Host.reduceAdd (masked 0x00000000#32 k s) (constant S_ .f32 0x00000000#32) reducesTo_S512_S_d0 h_S_) (pick s n))
        (sitofp .f32 (maxsi (subi (count k) (constantI S_ 32 1#32)) (constantI S_ 32 1#32)))))
    (constant S_ .f32 0x00000000#32)

/-- 2 when the greatest similarity passes the threshold, 1 otherwise. -/
def fire (sm : Arr F S512 .f32) (n : Arr F S_ .i32) : Arr F S_ .f32 :=
  id (select (cmpf .ogt (pick sm n) (constant S_ .f32 0x3F59999A#32)) (constant S_ .f32 0x40000000#32) (constant S_ .f32 0x3F800000#32))

/-- The facilitation of the nearest entry, after that entry was multiplied by `f`. -/
def level (v : Arr F S512 .f32) (n : Arr F S_ .i32) (f : Arr F S_ .f32) : Arr F S_ .f32 :=
  pick (Host.scatter scatter_S512_S1_S__n_0_0_0 (fun _ b => b) v (broadcastInDim S1 ![] bcast_S_S1 (wrap n)) (mulf (pick v n) f)) n

/-- The gate, from the two clipped scales, the contrast and the level. -/
def gate (k s d l : Arr F S_ .f32) : Arr F S_ .f32 :=
  minimumf
    (addf (constant S_ .f32 0x3F800000#32)
      (mulf (mulf k (subf l (constant S_ .f32 0x3F800000#32)))
        (Host.divf (constant S_ .f32 0x3F800000#32)
          (addf (constant S_ .f32 0x3F800000#32) (Host.exp (Host.negf (mulf s d)))))))
    (constant S_ .f32 0x41000000#32)

/-- The reference's result, from its arguments. -/
def result (x : Arr F S4x8192x1024 .f32) (a1 a2 : Arr F S_ .f32) (b : Arr F S512x1024 .f32) (v : Arr F S512 .f32) (k : Arr F S512 .i1) : Arr F S4x8192x1024 .f32 :=
  mulf (act x) (broadcastInDim S4x8192x1024 ![] bcast_S_S4x8192x1024
    (gate (clipExp 0x3C23D70A#32 0x40A00000#32 a1) (clipExp 0x3F000000#32 0x41A00000#32 a2)
      (contrast k (sims b (unit (mean (act x)))) (masked 0xBF800000#32 k (sims b (unit (mean (act x)))))
        (argmax (masked 0xBF800000#32 k (sims b (unit (mean (act x)))))))
      (level v (argmax (masked 0xBF800000#32 k (sims b (unit (mean (act x))))))
        (fire (masked 0xBF800000#32 k (sims b (unit (mean (act x)))))
          (argmax (masked 0xBF800000#32 k (sims b (unit (mean (act x))))))))))

end Cert.ReferenceIdeal.Whole

end
-- ==== Proof.RefRun.lean ====
/-
  The reference's run: it terminates, its result is `result` of its arguments, and the arguments are unchanged.
-/
module

public import proofs.«01_k».proof.Proof.RefOps
public import proofs.«01_k».proof.Proof.RefVal
public import Idealize.ShloMosaic.Lib.StableHlo.RunRead
public import Idealize.ShloMosaic.Lib.Quiescent
public import Idealize.ShloMosaic.Lib.Pipeline.Frame

@[expose] public section

noncomputable section

namespace Cert.ReferenceIdeal.Whole

open Cert.ReferenceIdeal Cert.ReferenceIdeal.Gen Idealize.ShloMosaic Idealize.ShloMosaic.TcCoe Idealize.SL.Sem Idealize.ShloMosaic.StableHlo

variable {F : FTy → Type} [FloatOps F]

variable (V : Valuation τ sig (Elt F))

theorem readA1 : after opsA V (Proc.devRef .tc main_v1) = clipExp 0x3C23D70A#32 0x40A00000#32 (V (Proc.devRef .tc main_arg1)) := by
  simp only [opsA, TRef.binary, TRef.nullary, TRef.ternary, TRef.unary, TRef.toBuf, TRef.ofBuf, cast_eq]; after_reads_simp [unaryIndexed_result_read, indexContents_cons, indexContents_empty]; rfl

theorem readA3 : after opsA V (Proc.devRef .tc main_v3) = clipExp 0x3F000000#32 0x41A00000#32 (V (Proc.devRef .tc main_arg2)) := by
  simp only [opsA, TRef.binary, TRef.nullary, TRef.ternary, TRef.unary, TRef.toBuf, TRef.ofBuf, cast_eq]; after_reads_simp [unaryIndexed_result_read, indexContents_cons, indexContents_empty]; rfl

theorem readA16 : after opsA V (Proc.devRef .tc main_v16) = act (V (Proc.devRef .tc main_arg0)) := by
  simp only [opsA, TRef.binary, TRef.nullary, TRef.ternary, TRef.unary, TRef.toBuf, TRef.ofBuf, cast_eq]; after_reads_simp [unaryIndexed_result_read, indexContents_cons, indexContents_empty]; rfl

theorem readB25 : after opsB V (Proc.devRef .tc main_v25) = sims (V (Proc.devRef .tc main_arg3)) (unit (mean (V (Proc.devRef .tc main_v16)))) := by
  simp only [opsB, TRef.binary, TRef.nullary, TRef.ternary, TRef.unary, TRef.quaternary, TRef.toBuf, TRef.ofBuf, cast_eq]; after_reads_simp [unaryIndexed_result_read, indexContents_cons, indexContents_empty]; rfl

theorem readB26 : after opsB V (Proc.devRef .tc main_v26)
    = masked 0xBF800000#32 (V (Proc.devRef .tc main_arg5)) (sims (V (Proc.devRef .tc main_arg3)) (unit (mean (V (Proc.devRef .tc main_v16))))) := by
  simp only [opsB, TRef.binary, TRef.nullary, TRef.ternary, TRef.unary, TRef.quaternary, TRef.toBuf, TRef.ofBuf, cast_eq]; after_reads_simp [unaryIndexed_result_read, indexContents_cons, indexContents_empty]; rfl

theorem readB27 : after opsB V (Proc.devRef .tc main_v27)
    = argmax (masked 0xBF800000#32 (V (Proc.devRef .tc main_arg5)) (sims (V (Proc.devRef .tc main_arg3)) (unit (mean (V (Proc.devRef .tc main_v16)))))) := by
  simp only [opsB, TRef.binary, TRef.nullary, TRef.ternary, TRef.unary, TRef.quaternary, TRef.toBuf, TRef.ofBuf, cast_eq]; after_reads_simp [unaryIndexed_result_read, indexContents_cons, indexContents_empty]; rfl

theorem readC49 : after opsC V (Proc.devRef .tc main_v49)
    = contrast (V (Proc.devRef .tc main_arg5)) (V (Proc.devRef .tc main_v25)) (V (Proc.devRef .tc main_v26)) (V (Proc.devRef .tc main_v27)) := by
  simp only [opsC, TRef.binary, TRef.nullary, TRef.ternary, TRef.unary, TRef.toBuf, TRef.ofBuf, cast_eq]; after_reads_simp [unaryIndexed_result_read, indexContents_cons, indexContents_empty]; rfl

theorem readC52 : after opsC V (Proc.devRef .tc main_v52) = fire (V (Proc.devRef .tc main_v26)) (V (Proc.devRef .tc main_v27)) := by
  simp only [opsC, TRef.binary, TRef.nullary, TRef.ternary, TRef.unary, TRef.toBuf, TRef.ofBuf, cast_eq]; after_reads_simp [unaryIndexed_result_read, indexContents_cons, indexContents_empty]; rfl

theorem readD80 : after opsD V (Proc.devRef .tc main_v80)
    = mulf (V (Proc.devRef .tc main_v16)) (broadcastInDim S4x8192x1024 ![] bcast_S_S4x8192x1024
        (gate (V (Proc.devRef .tc main_v1)) (V (Proc.devRef .tc main_v3)) (V (Proc.devRef .tc main_v49))
          (level (V (Proc.devRef .tc main_arg4)) (V (Proc.devRef .tc main_v27)) (V (Proc.devRef .tc main_v52))))) := by
  simp only [opsD, TRef.binary, TRef.nullary, TRef.ternary, TRef.unary, TRef.toBuf, TRef.ofBuf, cast_eq]; after_reads_simp [unaryIndexed_result_read, indexContents_cons, indexContents_empty]; rfl

theorem keepA : after opsA V (Proc.devRef .tc main_arg0) = V (Proc.devRef .tc main_arg0)
    ∧ after opsA V (Proc.devRef .tc main_arg1) = V (Proc.devRef .tc main_arg1)
    ∧ after opsA V (Proc.devRef .tc main_arg2) = V (Proc.devRef .tc main_arg2)
    ∧ after opsA V (Proc.devRef .tc main_arg3) = V (Proc.devRef .tc main_arg3)
    ∧ after opsA V (Proc.devRef .tc main_arg4) = V (Proc.devRef .tc main_arg4)
    ∧ after opsA V (Proc.devRef .tc main_arg5) = V (Proc.devRef .tc main_arg5) := by
  simp only [opsA, TRef.binary, TRef.nullary, TRef.ternary, TRef.unary, TRef.quaternary, TRef.toBuf, TRef.ofBuf, cast_eq]
  refine ⟨?_, ?_, ?_, ?_, ?_, ?_⟩ <;> after_reads_simp

theorem keepB : after opsB V (Proc.devRef .tc main_v1) = V (Proc.devRef .tc main_v1)
    ∧ after opsB V (Proc.devRef .tc main_v3) = V (Proc.devRef .tc main_v3)
    ∧ after opsB V (Proc.devRef .tc main_v16) = V (Proc.devRef .tc main_v16)
    ∧ after opsB V (Proc.devRef .tc main_arg0) = V (Proc.devRef .tc main_arg0)
    ∧ after opsB V (Proc.devRef .tc main_arg1) = V (Proc.devRef .tc main_arg1)
    ∧ after opsB V (Proc.devRef .tc main_arg2) = V (Proc.devRef .tc main_arg2)
    ∧ after opsB V (Proc.devRef .tc main_arg3) = V (Proc.devRef .tc main_arg3)
    ∧ after opsB V (Proc.devRef .tc main_arg4) = V (Proc.devRef .tc main_arg4)
    ∧ after opsB V (Proc.devRef .tc main_arg5) = V (Proc.devRef .tc main_arg5) := by
  simp only [opsB, TRef.binary, TRef.nullary, TRef.ternary, TRef.unary, TRef.quaternary, TRef.toBuf, TRef.ofBuf, cast_eq]
  refine ⟨?_, ?_, ?_, ?_, ?_, ?_, ?_, ?_, ?_⟩ <;> after_reads_simp

theorem keepC : after opsC V (Proc.devRef .tc main_v1) = V (Proc.devRef .tc main_v1)
    ∧ after opsC V (Proc.devRef .tc main_v3) = V (Proc.devRef .tc main_v3)
    ∧ after opsC V (Proc.devRef .tc main_v16) = V (Proc.devRef .tc main_v16)
    ∧ after opsC V (Proc.devRef .tc main_v27) = V (Proc.devRef .tc main_v27)
    ∧ after opsC V (Proc.devRef .tc main_arg0) = V (Proc.devRef .tc main_arg0)
    ∧ after opsC V (Proc.devRef .tc main_arg1) = V (Proc.devRef .tc main_arg1)
    ∧ after opsC V (Proc.devRef .tc main_arg2) = V (Proc.devRef .tc main_arg2)
    ∧ after opsC V (Proc.devRef .tc main_arg3) = V (Proc.devRef .tc main_arg3)
    ∧ after opsC V (Proc.devRef .tc main_arg4) = V (Proc.devRef .tc main_arg4)
    ∧ after opsC V (Proc.devRef .tc main_arg5) = V (Proc.devRef .tc main_arg5) := by
  simp only [opsC, TRef.binary, TRef.nullary, TRef.ternary, TRef.unary, TRef.quaternary, TRef.toBuf, TRef.ofBuf, cast_eq]
  refine ⟨?_, ?_, ?_, ?_, ?_, ?_, ?_, ?_, ?_, ?_⟩ <;> after_reads_simp

theorem keepD : after opsD V (Proc.devRef .tc main_arg0) = V (Proc.devRef .tc main_arg0)
    ∧ after opsD V (Proc.devRef .tc main_arg1) = V (Proc.devRef .tc main_arg1)
    ∧ after opsD V (Proc.devRef .tc main_arg2) = V (Proc.devRef .tc main_arg2)
    ∧ after opsD V (Proc.devRef .tc main_arg3) = V (Proc.devRef .tc main_arg3)
    ∧ after opsD V (Proc.devRef .tc main_arg4) = V (Proc.devRef .tc main_arg4)
    ∧ after opsD V (Proc.devRef .tc main_arg5) = V (Proc.devRef .tc main_arg5) := by
  simp only [opsD, TRef.binary, TRef.nullary, TRef.ternary, TRef.unary, TRef.quaternary, TRef.toBuf, TRef.ofBuf, cast_eq]
  refine ⟨?_, ?_, ?_, ?_, ?_, ?_⟩ <;> after_reads_simp

/-- The result buffer after all the operations, from the arguments. -/
theorem read_result : after ops V (Proc.devRef .tc main_v80)
    = result (V (Proc.devRef .tc main_arg0)) (V (Proc.devRef .tc main_arg1)) (V (Proc.devRef .tc main_arg2)) (V (Proc.devRef .tc main_arg3))
        (V (Proc.devRef .tc main_arg4)) (V (Proc.devRef .tc main_arg5)) := by
  obtain ⟨-, -, -, a3, a4, a5⟩ := keepA V
  obtain ⟨b1, b3, b16, -, -, -, -, b4, b5⟩ := keepB (after opsA V)
  obtain ⟨c1, c3, c16, c27, -, -, -, -, c4, -⟩ := keepC (after opsB (after opsA V))
  rw [ops, after_append, after_append, after_append, readD80, readC49, readC52, c1, c3, c16, c27, c4, readB25, readB26, readB27,
    b1, b3, b16, b4, b5, readA1, readA3, readA16, a3, a4, a5]
  rfl

/-- The arguments are as they were after all the operations. -/
theorem read_args : after ops V (Proc.devRef .tc main_arg0) = V (Proc.devRef .tc main_arg0)
    ∧ after ops V (Proc.devRef .tc main_arg1) = V (Proc.devRef .tc main_arg1)
    ∧ after ops V (Proc.devRef .tc main_arg2) = V (Proc.devRef .tc main_arg2)
    ∧ after ops V (Proc.devRef .tc main_arg3) = V (Proc.devRef .tc main_arg3)
    ∧ after ops V (Proc.devRef .tc main_arg4) = V (Proc.devRef .tc main_arg4)
    ∧ after ops V (Proc.devRef .tc main_arg5) = V (Proc.devRef .tc main_arg5) := by
  obtain ⟨a0, a1, a2, a3, a4, a5⟩ := keepA V
  obtain ⟨-, -, -, b0, b1, b2, b3, b4, b5⟩ := keepB (after opsA V)
  obtain ⟨-, -, -, -, c0, c1, c2, c3, c4, c5⟩ := keepC (after opsB (after opsA V))
  obtain ⟨d0, d1, d2, d3, d4, d5⟩ := keepD (after opsC (after opsB (after opsA V)))
  simp only [ops, after_append]
  exact ⟨d0.trans (c0.trans (b0.trans a0)), d1.trans (c1.trans (b1.trans a1)), d2.trans (c2.trans (b2.trans a2)),
    d3.trans (c3.trans (b3.trans a3)), d4.trans (c4.trans (b4.trans a4)), d5.trans (c5.trans (b5.trans a5))⟩

/-- The reference's run: the result is `result` of the arguments, the arguments are unchanged, and every counter is zero. -/
theorem run_all (m : (ℓ : Loc nD τ sig) → Buf (Elt F) ℓ) (ρ : Dev nD → PrngReg) :
    θ_run defs (onTc (τ := τ) (main (F := F))) ⟨m, fun _ => 0, ρ⟩ fun r => (∀ c : Dev nD,
      r.2.mem ((c.tc : Thread nD τ).loc main_v80)
        = result (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0 :=
  (θ_run defs _ _).mono (fun r h => ⟨fun c =>
      have a := read_args (launchContents m c)
      ⟨(h c main_v80).trans (read_result _), (h c main_arg0).trans a.1, (h c main_arg1).trans a.2.1, (h c main_arg2).trans a.2.2.1,
        (h c main_arg3).trans a.2.2.2.1, (h c main_arg4).trans a.2.2.2.2.1, (h c main_arg5).trans a.2.2.2.2.2⟩,
      sem_eq_zero_of_no_sems (by decide) r.2⟩)
    (run_seq scopedRefs_eq scopedSems_eq defs main (fun _ => ops) main_eq (fun _ => ops_sub) m ρ (fun _ => ops_fresh))

end Cert.ReferenceIdeal.Whole

end
-- ==== Proof.Nearest.lean ====
/-
  The nearest entry: the reference's first greatest index is the index the kernel finds as the least one whose entry
  equals the greatest.
-/
module

public import proofs.«01_k».proof.Proof.RefVal
public import Idealize.ShloMosaic.Lib.Pointwise
public import Idealize.ShloMosaic.Lib.DynamicIndex
public import Idealize.ShloMosaic.Lib.Routing.OpsOne
public import Idealize.ShloMosaic.Lib.Routing.OpsSet

@[expose] public section

set_option maxRecDepth 16384

noncomputable section

namespace Cert.ReferenceIdeal.Whole

open Cert.ReferenceIdeal Cert.ReferenceIdeal.Gen Idealize.ShloMosaic Idealize.ShloMosaic.TcCoe

/-- `i` is the first index of `v`'s greatest entry. -/
def IsFirst {N : ℕ} (v : Fin N → EReal) (i : Fin N) : Prop := (∀ k, v k ≤ v i) ∧ ∀ k, k < i → v k < v i

theorem toInt_word (n : ℕ) (h : n < 1024) : (BitVec.ofNat 32 n).toInt = n := by
  rw [BitVec.toInt_eq_toNat_of_lt] <;> rw [BitVec.toNat_ofNat] <;> omega

/-- One step of the reference's search, from the first greatest of the entries before `n`. -/
theorem step (v : Fin 512 → EReal) (n : Fin 512) (a : EReal × BitVec 32)
    (h : (n.val = 0 ∧ a = (⊥, 0#32)) ∨ ∃ j : Fin 512, j < n ∧ a = (v j, BitVec.ofNat 32 j.val) ∧ (∀ k, k < n → v k ≤ v j) ∧ ∀ k, k < j → v k < v j) :
    ∃ j : Fin 512, j.val < n.val + 1 ∧ reducer_argmax_f32_i32 (F := Ideal) a (v n, BitVec.ofNat 32 n.val) = (v j, BitVec.ofNat 32 j.val)
      ∧ (∀ k, k.val < n.val + 1 → v k ≤ v j) ∧ ∀ k, k < j → v k < v j := by
  have hn := n.isLt
  rcases h with ⟨h0, rfl⟩ | ⟨j, hj, rfl, hmax, hfirst⟩
  · refine ⟨n, by omega, ?_, fun k hk => ?_, fun k hk => ?_⟩
    · rw [h0]
      simp only [reducer_argmax_f32_i32, Scalar.select, IntOp.ori, IntOp.andi, IntOp.cmpi, Ideal.cmpf_def, Ideal.cmp, not_lt_bot]
      by_cases hb : ⊥ = v n
      · simp [← hb]
      · simp [hb]
    · have : k = n := Fin.ext (by omega)
      rw [this]
    · exact absurd (show k.val < n.val from hk) (by omega)
  · have hjn : j.val < n.val := hj
    have hslt : (BitVec.ofNat 32 j.val).slt (BitVec.ofNat 32 n.val) = true := by
      rw [BitVec.slt, decide_eq_true_iff, toInt_word _ (by omega), toInt_word _ (by omega)]
      omega
    rcases lt_trichotomy (v n) (v j) with hlt | heq | hgt
    · refine ⟨j, by omega, ?_, fun k hk => ?_, hfirst⟩
      · simp [reducer_argmax_f32_i32, Scalar.select, IntOp.ori, IntOp.andi, IntOp.cmpi, Ideal.cmpf_def, Ideal.cmp, hlt, hlt.ne']
      · rcases Nat.lt_or_ge k.val n.val with h | h
        · exact hmax k h
        · rw [show k = n from Fin.ext (by omega)]; exact hlt.le
    · refine ⟨j, by omega, ?_, fun k hk => ?_, hfirst⟩
      · simp [reducer_argmax_f32_i32, Scalar.select, IntOp.ori, IntOp.andi, IntOp.cmpi, Ideal.cmpf_def, Ideal.cmp, heq, hslt]
      · rcases Nat.lt_or_ge k.val n.val with h | h
        · exact hmax k h
        · rw [show k = n from Fin.ext (by omega)]; exact heq.le
    · refine ⟨n, by omega, ?_, fun k hk => ?_, fun k hk => lt_of_le_of_lt (hmax k hk) hgt⟩
      · simp [reducer_argmax_f32_i32, Scalar.select, IntOp.ori, IntOp.andi, IntOp.cmpi, Ideal.cmpf_def, Ideal.cmp, hgt.not_gt, hgt.ne]
      · rcases Nat.lt_or_ge k.val n.val with h | h
        · exact (hmax k h).trans hgt.le
        · rw [show k = n from Fin.ext (by omega)]

/-- The entries the reference's search goes over, in order. -/
theorem fiber (v : Arr Ideal S512 .f32) (j : S_.Idx) :
    Host.argReduceFiber v (iotaInDim S512 32 0) reducesTo_S512_S_d0 j = (List.finRange 512).map fun i => (v (ix1 i), BitVec.ofNat 32 i.val) := by
  unfold Host.argReduceFiber
  rw [List.filter_eq_self.mpr fun n _ => decide_eq_true (Subsingleton.elim _ _)]
  have key : ∀ n : Fin S512.numel, S512.rowMajor.symm n = ix1 (⟨n.val, n.isLt.trans_eq (by decide)⟩ : Fin 512) := fun n => by
    refine (Equiv.symm_apply_eq _).mpr (Fin.ext ?_)
    exact (rowMajor_val1 (d := ![512]) (ix1 (⟨n.val, n.isLt.trans_eq (by decide)⟩ : Fin 512))).symm
  refine List.ext_getElem (by simp; decide) fun i h1 h2 => ?_
  simp only [List.getElem_map, List.getElem_finRange]
  erw [key]
  rfl

/-- After the first `n` entries. -/
theorem search (v : Fin 512 → EReal) (n : ℕ) (hn : n < 512) :
    ∃ j : Fin 512, j.val < n + 1
      ∧ (((List.finRange 512).map fun i => (v i, BitVec.ofNat 32 i.val)).take (n + 1)).foldl (reducer_argmax_f32_i32 (F := Ideal)) (⊥, 0#32) = (v j, BitVec.ofNat 32 j.val)
      ∧ (∀ k, k.val < n + 1 → v k ≤ v j) ∧ ∀ k, k < j → v k < v j := by
  induction n with
  | zero =>
    rw [List.take_add_one, List.take_zero, List.nil_append, List.getElem?_eq_getElem (by simp)]
    simpa using step v ⟨0, hn⟩ (⊥, 0#32) (.inl ⟨rfl, rfl⟩)
  | succ n ih =>
    obtain ⟨j, hj, e, hmax, hfirst⟩ := ih (by omega)
    rw [List.take_add_one, List.foldl_append, e, List.getElem?_eq_getElem (by simpa using hn)]
    simpa using step v ⟨n + 1, hn⟩ _ (.inr ⟨j, hj, rfl, hmax, hfirst⟩)

/-- The reference's `argmax` is the first index of the greatest entry. -/
theorem argmax_first (v : Arr Ideal S512 .f32) : ∃ i : Fin 512, argmax v = (fun _ => BitVec.ofNat 32 i.val) ∧ IsFirst (fun k => v (ix1 k)) i := by
  obtain ⟨j, _, e, hmax, hfirst⟩ := search (fun k => v (ix1 k)) 511 (by decide)
  refine ⟨j, funext fun i => ?_, fun k => hmax k k.isLt, hfirst⟩
  unfold argmax
  rw [Ideal.argReduce_eq_reduce2, Host.reduce2_eq_foldl_fiber, fiber]
  rw [List.take_of_length_le (by simp)] at e
  have hb : (constant (F := Ideal) S_ .f32 0xFF800000#32) (Shape.Idx.first h_S_) = (⊥ : EReal) := by
    show Ideal.ofBits .f32 0xFF800000#32 = ⊥
    simp [Ideal.ofBits, Ideal.ieee]
  rw [hb]
  exact congrArg Prod.snd e

/-- A vector's entry picked at an index word of an entry. -/
theorem pick_at (v : Arr Ideal S512 .f32) (i : Fin 512) (j : S_.Idx) : pick v (fun _ => BitVec.ofNat 32 i.val) j = v (ix1 i) := by
  have hi := i.isLt
  have hw : wrap (F := Ideal) (fun _ => BitVec.ofNat 32 i.val) = fun _ => BitVec.ofNat 32 i.val :=
    funext fun k => select_slt_zero_of_nonneg _ _ _ _ (by rw [toInt_word _ (by omega)]; omega)
  pointwise [pick]
  rw [hw]
  have hc := Host.clampedStart_of_le (s := S512) (t := S1) rfl (fun k => (BitVec.ofNat 32 i.val).toInt) 0 i.val (toInt_word _ (by omega))
    (by show i.val + 1 ≤ 512; omega)
  congr 2
  exact Fin.ext hc

/-- The facilitation of the nearest entry is its old value times the factor. -/
theorem level_at (v : Arr Ideal S512 .f32) (i : Fin 512) (f : Arr Ideal S_ .f32) (j : S_.Idx) :
    level v (fun _ => BitVec.ofNat 32 i.val) f j = v (ix1 i) * f j := by
  have hi := i.isLt
  have hw : wrap (F := Ideal) (fun _ => BitVec.ofNat 32 i.val) = fun _ => BitVec.ofNat 32 i.val :=
    funext fun k => select_slt_zero_of_nonneg _ _ _ _ (by rw [toInt_word _ (by omega)]; omega)
  unfold level
  rw [pick_at]
  refine Routing.scatter_set_hit _ _ _ _ _ _ (fun k _ => ?_) j ?_
  · show pick v _ k * f k = _
    rw [pick_at, Subsingleton.elim k j]
  · rw [hw]
    rw [Subsingleton.elim j ValueIdx.ix0]
    exact (Routing.lands_one scatter_S512_S1_S__n_0_0_0 rfl rfl (broadcastInDim S1 ![] bcast_S_S1 fun _ : S_.Idx => BitVec.ofNat 32 i.val) i (toInt_word _ (by omega)) i).mpr rfl

end Cert.ReferenceIdeal.Whole

end
-- ==== Proof.Gate.lean ====
/-
  The gate: from the same similarities the kernel's scalar is the reference's.
-/
module

public import proofs.«01_k».proof.Proof.Nearest
public import proofs.«01_k».proof.Proof.BodyOne

@[expose] public section

set_option maxRecDepth 16384

noncomputable section

namespace Cert.KernelIdeal.Whole

open Cert.KernelIdeal Cert.KernelIdeal.Gen Idealize.ShloMosaic Idealize.ShloMosaic.TcCoe
open Cert.ReferenceIdeal.Whole (Arr IsFirst toInt_word masked contrast fire level pick clipExp count pick_at level_at argmax argmax_first)

/-! ## Folds over the entries -/

/-- A fold of 32-bit additions is the word of the sum. -/
theorem fold_addi {ι : Type} [DecidableEq ι] (s : Finset ι) (f : ι → BitVec 32) :
    Finset.fold IntOp.addi 0#32 f s = BitVec.ofNat 32 (∑ i ∈ s, (f i).toNat) := by
  induction s using Finset.induction_on with
  | empty => rfl
  | insert a s ha ih =>
    rw [Finset.fold_insert ha, Finset.sum_insert ha, ih, BitVec.ofNat_add, BitVec.ofNat_toNat, BitVec.setWidth_eq]
    rfl

/-- The kernel's greatest entry is the entry at the first greatest index. -/
theorem fold_max {v : Fin 512 → EReal} {i : Fin 512} (h : IsFirst v i) :
    Finset.fold max (Ideal.ofBits .f32 0xFF800000#32) (fun x : Fin 512 × Fin 1 => v x.1) Finset.univ = v i := by
  have hb : Ideal.ofBits .f32 0xFF800000#32 = ⊥ := by simp [Ideal.ofBits, Ideal.ieee]
  refine le_antisymm ((Finset.fold_max_le _).mpr ⟨?_, fun x _ => h.1 x.1⟩) ((Finset.le_fold_max _).mpr (.inr ⟨(i, 0), Finset.mem_univ _, le_rfl⟩))
  rw [hb]; exact bot_le

/-- The kernel's least index whose entry is the greatest is the first greatest index. -/
theorem fold_min {v : Fin 512 → EReal} {i : Fin 512} (h : IsFirst v i) :
    Finset.fold IntOp.minsi 2147483647#32 (fun x : Fin 512 × Fin 1 => if v x.1 = v i then BitVec.ofNat 32 x.1.val else 1073741824#32) Finset.univ
      = BitVec.ofNat 32 i.val := by
  have hi := i.isLt
  apply BitVec.eq_of_toInt_eq
  have hm : ∀ x y : BitVec 32, (IntOp.minsi x y).toInt = min x.toInt y.toInt := fun x y => by
    unfold IntOp.minsi
    simp only [BitVec.slt, decide_eq_true_eq]
    split <;> omega
  have hI : (BitVec.ofNat 32 i.val).toInt = i.val := toInt_word _ (by omega)
  rw [← Finset.fold_hom (op' := min) hm]
  refine le_antisymm ((Finset.fold_min_le _).mpr (.inr ⟨(i, 0), Finset.mem_univ _, ?_⟩)) ((Finset.le_fold_min _).mpr ⟨?_, fun x _ => ?_⟩)
  · show (if v i = v i then BitVec.ofNat 32 i.val else 1073741824#32).toInt ≤ _
    rw [if_pos rfl]
  · rw [hI]
    show (i.val : ℤ) ≤ 2147483647
    omega
  · rw [hI]
    show (i.val : ℤ) ≤ (if v x.1 = v i then BitVec.ofNat 32 x.1.val else 1073741824#32).toInt
    have hx := x.1.isLt
    split
    · next e =>
      rw [toInt_word _ (by omega)]
      by_contra hlt
      exact absurd e (h.2 x.1 (show x.1.val < i.val by omega)).ne
    · show (i.val : ℤ) ≤ 1073741824
      omega

/-- Selecting one entry out of a sum. -/
theorem sum_one (v : Fin 512 → EReal) (i : Fin 512) :
    ∑ x : Fin 512, Scalar.select (IntOp.cmpi .eq (BitVec.ofNat 32 x.val) (BitVec.ofNat 32 i.val)) (v x) 0 = v i := by
  rw [Finset.sum_eq_single i]
  · simp [Scalar.select, IntOp.cmpi]
  · intro x _ hx
    have : BitVec.ofNat 32 x.val ≠ BitVec.ofNat 32 i.val := fun e => hx (Fin.ext (by
      have := congrArg BitVec.toNat e
      rw [BitVec.toNat_ofNat, BitVec.toNat_ofNat] at this
      have hx := x.isLt
      have hi := i.isLt
      omega))
    simp [Scalar.select, IntOp.cmpi, beq_eq_false_iff_ne.mpr this]
  · intro h
    exact absurd (Finset.mem_univ i) h

/-! ## The kernel's quantities -/

/-- An entry's mask value is positive exactly where the mask is set. -/
theorem mask_pos {mk : Vec Ideal S512x1 .f32} {k : Arr Ideal S512 .i1} (hm : ∀ i : Fin 512, mk (ix2 i 0) = if k (ix1 i) = 1#1 then 1 else 0) (i : Fin 512) : 0 < mk (ix2 i 0) ↔ k (ix1 i) = 1#1 := by
  rw [hm i]
  split <;> simp_all

section
variable {s : Vec Ideal S1x1024 .f32} {b : Vec Ideal S512x1024 .f32} {mk fc : Vec Ideal S512x1 .f32}
variable {k : Arr Ideal S512 .i1} {v sm : Arr Ideal S512 .f32}
variable (hs : ∀ i : Fin 512, k0_pay5 s b (ix2 i 0) = sm (ix1 i))
variable (hm : ∀ i : Fin 512, mk (ix2 i 0) = if k (ix1 i) = 1#1 then 1 else 0)
include hs hm

/-- The masked similarities. -/
theorem masked_at (i : Fin 512) :
    (if 0 < mk (ix2 i 0) then k0_pay5 s b (ix2 i 0) else Ideal.ofBits .f32 0xBF800000#32) = masked 0xBF800000#32 k sm (ix1 i) := by
  pointwise [masked, id]
  rw [hs i]
  unfold Scalar.select
  simp only [mask_pos hm i]
  rfl

variable {i₀ : Fin 512} (h₀ : IsFirst (fun i => masked 0xBF800000#32 k sm (ix1 i)) i₀)
include h₀

/-- The greatest masked similarity. -/
theorem pay9_at (j : S1x1.Idx) : k0_pay9 s b mk j = masked 0xBF800000#32 k sm (ix1 i₀) := by
  pointwise [k0_pay9, k0_pay8, k0_pay7, k0_pay6]
  simp only [masked_at hs hm]
  exact fold_max h₀

/-- The mark of the nearest entry. -/
theorem pay10_at (i : Fin 512) : k0_pay10 s b mk (ix2 i 0) = IntOp.cmpi .eq (BitVec.ofNat 32 i.val) (BitVec.ofNat 32 i₀.val) := by
  pointwise [k0_pay10, k0_pay9, k0_pay8, k0_pay7, k0_pay6]
  simp only [masked_at hs hm, fold_max h₀]
  rw [fold_min h₀]

/-- The similarity of the nearest entry. -/
theorem pay11_at (j : S1x1.Idx) : k0_pay11 s b mk j = sm (ix1 i₀) := by
  pointwise [k0_pay11]
  simp only [pay10_at hs hm h₀, hs, Finset.univ_unique, Finset.sum_singleton]
  exact sum_one (fun i => sm (ix1 i)) i₀

end

/-! ## The contrast -/

/-- How many of the mask's bits are set. -/
def set (k : Arr Ideal S512 .i1) : ℕ := ∑ i : Fin 512, if k (ix1 i) = 1#1 then 1 else 0

theorem set_le (k : Arr Ideal S512 .i1) : set k ≤ 512 :=
  (Finset.sum_le_sum (g := fun _ => 1) fun i _ => by split <;> omega).trans (by simp)

/-- The reference's count is their number's word. -/
theorem count_eq (k : Arr Ideal S512 .i1) (j : S_.Idx) : (count (F := Ideal) k : S_.Idx → BitVec 32) j = BitVec.ofNat 32 (set k) := by
  pointwise [Cert.ReferenceIdeal.Whole.count]
  rw [fold_addi]
  refine congrArg (BitVec.ofNat 32) (Finset.sum_congr rfl fun i _ => ?_)
  rcases BitVec.eq_zero_or_eq_one (k (ix1 i)) with h | h <;> rw [h] <;> rfl

/-- The kernel's sum of the mask is their number. -/
theorem mask_sum {mk : Vec Ideal S512x1 .f32} {k : Arr Ideal S512 .i1} (hm : ∀ i : Fin 512, mk (ix2 i 0) = if k (ix1 i) = 1#1 then 1 else 0) :
    ∑ i : Fin 512, mk (ix2 i 0) = ((set k : ℝ) : EReal) := by
  have e : ∀ i : Fin 512, mk (ix2 i 0) = (((if k (ix1 i) = 1#1 then 1 else 0 : ℕ) : ℝ) : EReal) := fun i => by
    rw [hm i]; split <;> simp
  have hc : ∀ f : Fin 512 → ℝ, ∑ j, (f j : EReal) = ((∑ j, f j : ℝ) : EReal) := fun f =>
    (map_sum (⟨⟨Real.toEReal, rfl⟩, EReal.coe_add⟩ : ℝ →+ EReal) f Finset.univ).symm
  rw [Finset.sum_congr rfl fun i _ => e i, hc, set]
  push_cast
  rfl

/-- The number of the others, as the kernel and as the reference take it. -/
theorem others (n : ℕ) (h1 : 1 < n) (h2 : n ≤ 512) :
    max (((n : ℝ) : EReal) - 1) 1 = (((IntOp.maxsi (IntOp.subi (BitVec.ofNat 32 n) 1#32) 1#32).toInt : ℝ) : EReal) := by
  have hsub : IntOp.subi (BitVec.ofNat 32 n) 1#32 = BitVec.ofNat 32 (n - 1) := by
    apply BitVec.eq_of_toNat_eq
    show (BitVec.ofNat 32 n - 1#32).toNat = _
    rw [BitVec.toNat_sub, BitVec.toNat_ofNat, BitVec.toNat_ofNat, BitVec.toNat_ofNat]
    omega
  have hmax : IntOp.maxsi (BitVec.ofNat 32 (n - 1)) 1#32 = BitVec.ofNat 32 (n - 1) := by
    unfold IntOp.maxsi
    simp only [BitVec.slt, decide_eq_true_eq, toInt_word (n - 1) (by omega), show (1#32 : BitVec 32).toInt = 1 from rfl]
    split
    · rfl
    · apply BitVec.eq_of_toInt_eq
      rw [toInt_word (n - 1) (by omega)]
      show (1 : ℤ) = _
      omega
  rw [hsub, hmax, toInt_word (n - 1) (by omega), ← EReal.coe_one, ← EReal.coe_sub]
  rw [max_eq_left (by rw [EReal.coe_le_coe_iff]; have : (2 : ℝ) ≤ n := by exact_mod_cast h1
                      linarith)]
  congr 1
  push_cast [Nat.cast_sub h1.le]
  rfl

section
variable {s : Vec Ideal S1x1024 .f32} {b : Vec Ideal S512x1024 .f32} {mk fc : Vec Ideal S512x1 .f32}
variable {k : Arr Ideal S512 .i1} {v sm : Arr Ideal S512 .f32}
variable (hs : ∀ i : Fin 512, k0_pay5 s b (ix2 i 0) = sm (ix1 i))
variable (hm : ∀ i : Fin 512, mk (ix2 i 0) = if k (ix1 i) = 1#1 then 1 else 0)
variable {i₀ : Fin 512} (h₀ : IsFirst (fun i => masked 0xBF800000#32 k sm (ix1 i)) i₀)
include hs hm h₀

/-- The contrast. -/
theorem contrast_at (j : S1x1.Idx) (i : S_.Idx) :
    k0_pay13 (k0_pay5 s b) (k0_pay7 mk) (k0_pay9 s b mk) (k0_pay11 s b mk) (k0_pay12 mk) j
      = contrast k sm (masked 0xBF800000#32 k sm) (fun _ => BitVec.ofNat 32 i₀.val) i := by
  have hle := set_le k
  pointwise [k0_pay13, k0_pay7, k0_pay6, k0_pay12, contrast]
  simp only [pay9_at hs hm h₀, pay11_at hs hm h₀, pick_at, Finset.univ_unique, Finset.sum_singleton, hs, count_eq, mask_sum hm, mask_pos hm]
  have hsum : ∑ x : Fin 512, (if k (ix1 x) = 1#1 then sm (ix1 x) else 0) = ∑ x : Fin 512, masked 0x00000000#32 k sm (ix1 x) :=
    Finset.sum_congr rfl fun x _ => by
      pointwise [masked, id]
      rfl
  rw [hsum]
  by_cases h : 1 < set k
  · have hc : (1 : EReal) < ((set k : ℝ) : EReal) := by
      rw [← EReal.coe_one, EReal.coe_lt_coe_iff]; exact_mod_cast h
    have hg : IntOp.cmpi .sgt (BitVec.ofNat 32 (set k)) 1#32 = 1#1 := by
      show BitVec.ofBool ((1#32 : BitVec 32).slt (BitVec.ofNat 32 (set k))) = 1#1
      rw [BitVec.slt, toInt_word (set k) (by omega), show (1#32 : BitVec 32).toInt = 1 from rfl, decide_eq_true (by omega)]
      rfl
    rw [if_pos hc, hg, others _ h hle]
    rfl
  · have hc : ¬(1 : EReal) < ((set k : ℝ) : EReal) := by
      rw [← EReal.coe_one, EReal.coe_lt_coe_iff]; exact_mod_cast h
    have hg : IntOp.cmpi .sgt (BitVec.ofNat 32 (set k)) 1#32 = 0#1 := by
      show BitVec.ofBool ((1#32 : BitVec 32).slt (BitVec.ofNat 32 (set k))) = 0#1
      rw [BitVec.slt, toInt_word (set k) (by omega), show (1#32 : BitVec 32).toInt = 1 from rfl, decide_eq_false (by omega)]
      rfl
    rw [if_neg hc, hg]
    rfl

variable (hf : ∀ i : Fin 512, fc (ix2 i 0) = v (ix1 i))
include hf

/-- The kernel's gate is the reference's, from the same similarities, mask, facilitations and scales. -/
theorem gate_at (a1 a2 : Arr Ideal S_ .f32) (lk ls : Ideal .f32) (i : S_.Idx) (h1 : lk = a1 i) (h2 : ls = a2 i) :
    gateOf s b mk fc lk ls
      = Cert.ReferenceIdeal.Whole.gate (clipExp 0x3C23D70A#32 0x40A00000#32 a1) (clipExp 0x3F000000#32 0x41A00000#32 a2)
          (contrast k sm (masked 0xBF800000#32 k sm) (fun _ => BitVec.ofNat 32 i₀.val))
          (level v (fun _ => BitVec.ofNat 32 i₀.val) (fire (masked 0xBF800000#32 k sm) (fun _ => BitVec.ofNat 32 i₀.val))) i := by
  have e1 : k0_pay14 (F := Ideal) lk = clipExp 0x3C23D70A#32 0x40A00000#32 a1 i := by rw [h1]; rfl
  have e2 : k0_pay15 (F := Ideal) ls = clipExp 0x3F000000#32 0x41A00000#32 a2 i := by rw [h2]; rfl
  have e3 : ∀ j, k0_pay16 (k0_pay9 s b mk) j = fire (masked 0xBF800000#32 k sm) (fun _ => BitVec.ofNat 32 i₀.val) i := fun j => by
    pointwise [k0_pay16, fire, id]
    simp only [pay9_at hs hm h₀, pick_at]
  have e4 : ∑ x : Fin 512, ∑ y : Fin 1, k0_pay17 (k0_pay10 s b mk) fc (ix3 0 x y) = v (ix1 i₀) := by
    pointwise [k0_pay17]
    simp only [pay10_at hs hm h₀, hf, Finset.univ_unique, Finset.sum_singleton]
    exact sum_one (fun i => v (ix1 i)) i₀
  unfold gateOf
  pointwise [k0_pay4, Cert.ReferenceIdeal.Whole.gate]
  rw [e1, e2, e3, e4, contrast_at hs hm h₀ _ i, level_at]
  rw [zero_sub, EReal.neg_mul]

end

end Cert.KernelIdeal.Whole

end
-- ==== Proof.Scalars.lean ====
/-
  The arithmetic on single numbers and on one row of sums that the two programs do differently: the activation's two
  forms, and the normalisation of the sums (the kernel's) against that of the mean (the reference's).
-/
module

public import Idealize.ShloMosaic.PureOps.Ideal.Laws
public import Idealize.ShloMosaic.Lib.IdealHost

@[expose] public section

noncomputable section

namespace Cert.Scalars

open Idealize.ShloMosaic

/-! ## The words -/

/-- The word for 1/2. -/
theorem half_word : Ideal.ofBits .f32 0x3F000000#32 = ((1 / 2 : ℝ) : EReal) := by
  simp [Ideal.ofBits, Ideal.ieee, -EReal.coe_mul]
  norm_num

/-- The word for the root of 2/π. -/
theorem c0_word : Ideal.ofBits .f32 0x3F4C422A#32 = ((6693141 / 8388608 : ℝ) : EReal) := by
  simp [Ideal.ofBits, Ideal.ieee, -EReal.coe_mul]
  norm_num

/-- The word for 0.044715. -/
theorem c3_word : Ideal.ofBits .f32 0x3D372713#32 = ((12003091 / 268435456 : ℝ) : EReal) := by
  simp [Ideal.ofBits, Ideal.ieee, -EReal.coe_mul]
  norm_num

/-- The word for the number of rows. -/
theorem rows_word : Ideal.ofBits .f32 0x47000000#32 = ((32768 : ℝ) : EReal) := by
  simp [Ideal.ofBits, Ideal.ieee, -EReal.coe_mul]
  norm_num

/-- The threshold's word is a positive number. -/
theorem eps_word : ∃ e : ℝ, 0 < e ∧ Ideal.ofBits .f32 0x2B8CBCCC#32 = (e : EReal) := by
  refine ⟨9223372 / 2 ^ 63, by norm_num, ?_⟩
  simp [Ideal.ofBits, Ideal.ieee, -EReal.coe_mul]
  norm_num

/-- The word for -∞. -/
theorem bot_word : Ideal.ofBits .f32 0xFF800000#32 = ⊥ := by
  simp [Ideal.ofBits, Ideal.ieee]

/-! ## The activation -/

/-- The kernel's activation of one number, the named constant's value in it. -/
def gelu (x : EReal) : EReal :=
  Ideal.ofBits .f32 0x3F000000#32 * x + Ideal.ofBits .f32 0x3F000000#32 * x
    * Ideal.tanh (x * (Ideal.ofBits .f32 0x3F4C422A#32 + ((80338380498831 / 2251799813685248 : ℝ) : EReal) * (x * x)))

/-- On a real number the activation is real. -/
theorem gelu_coe (r : ℝ) : gelu (r : EReal)
    = ((1 / 2 * r + 1 / 2 * r * Real.tanh (r * (6693141 / 8388608 + 80338380498831 / 2251799813685248 * (r * r))) : ℝ) : EReal) := by
  unfold gelu
  rw [half_word, c0_word]
  simp only [← EReal.coe_mul, ← EReal.coe_add, Ideal.tanh_coe]

/-- At plus infinity it is plus infinity. -/
theorem gelu_top : gelu ⊤ = ⊤ := by
  unfold gelu
  rw [half_word, c0_word, EReal.coe_mul_top_of_pos (by norm_num), EReal.top_mul_top, EReal.coe_mul_top_of_pos (by norm_num),
    EReal.coe_add_top, EReal.top_mul_top, Ideal.tanh_top, mul_one, EReal.top_add_top]

/-- Above minus infinity the activation is above minus infinity. -/
theorem gelu_ne_bot {x : EReal} (hx : x ≠ ⊥) : gelu x ≠ ⊥ := by
  induction x using EReal.rec with
  | bot => exact absurd rfl hx
  | coe r => rw [gelu_coe]; exact EReal.coe_ne_bot _
  | top => rw [gelu_top]; exact top_ne_bot

/-- The reference's form of the activation is the kernel's: the named constant is the product of the reference's two. -/
theorem gelu_eq {x : EReal} (hx : x ≠ ⊥) :
    Ideal.ofBits .f32 0x3F000000#32 * x * (1 + Ideal.tanh (Ideal.ofBits .f32 0x3F4C422A#32
      * (x + Ideal.ofBits .f32 0x3D372713#32 * (x * x * x)))) = gelu x := by
  induction x using EReal.rec with
  | bot => exact absurd rfl hx
  | coe r =>
    rw [gelu_coe, half_word, c0_word, c3_word]
    simp only [← EReal.coe_mul, ← EReal.coe_add, Ideal.tanh_coe, ← EReal.coe_one]
    have e : (6693141 / 8388608 : ℝ) * (r + 12003091 / 268435456 * (r * r * r))
        = r * (6693141 / 8388608 + 80338380498831 / 2251799813685248 * (r * r)) := by ring
    rw [e]
    congr 1
    ring
  | top =>
    rw [gelu_top, half_word, c0_word, c3_word, EReal.top_mul_top, EReal.top_mul_top, EReal.coe_mul_top_of_pos (by norm_num),
      EReal.coe_mul_top_of_pos (by norm_num), EReal.top_add_top, EReal.coe_mul_top_of_pos (by norm_num), Ideal.tanh_top]
    exact EReal.top_mul_of_pos (by norm_num)

/-! ## The normalised row -/

/-- A sum of reals, read in the extended reals. -/
theorem coe_sum {n : ℕ} (f : Fin n → ℝ) : ∑ j, (f j : EReal) = ((∑ j, f j : ℝ) : EReal) :=
  (map_sum (⟨⟨Real.toEReal, rfl⟩, EReal.coe_add⟩ : ℝ →+ EReal) f Finset.univ).symm

/-- A square is not negative. -/
theorem mul_self_nonneg' (a : EReal) : 0 ≤ a * a := by
  induction a using EReal.rec with
  | bot => simp
  | coe r => rw [← EReal.coe_mul]; exact_mod_cast mul_self_nonneg r
  | top => simp

/-- A row with an infinite entry has infinite norm. -/
theorem norm_top {n : ℕ} (T : Fin n → EReal) (j : Fin n) (h : T j = ⊤) : Ideal.sqrt (∑ j, T j * T j) = ⊤ := by
  have h1 : T j * T j ≤ ∑ j, T j * T j := Finset.single_le_sum (fun i _ => mul_self_nonneg' (T i)) (Finset.mem_univ j)
  rw [h, EReal.top_mul_top, top_le_iff] at h1
  rw [h1, Ideal.sqrt_top]

/-- Anything divided by +∞ is 0. -/
theorem div_top (a : EReal) : Ideal.div a ⊤ = 0 := by
  rw [Ideal.div, if_neg EReal.top_ne_zero, EReal.inv_top, mul_zero]

/-- Dividing a row by its norm does not see a common positive scale, where the scaled norm is 0 or not below the threshold. -/
theorem unit_eq {n : ℕ} (S : Fin n → EReal) (hS : ∀ j, S j ≠ ⊥) (e D : ℝ) (he : 0 < e) (hD : 1 ≤ D)
    (hn : Ideal.sqrt (∑ j, Ideal.div (S j) D * Ideal.div (S j) D) = 0 ∨ (e : EReal) ≤ Ideal.sqrt (∑ j, Ideal.div (S j) D * Ideal.div (S j) D))
    (i : Fin n) :
    Ideal.div (S i) (max (Ideal.sqrt (∑ j, S j * S j)) e)
      = Ideal.div (Ideal.div (S i) D) (max (Ideal.sqrt (∑ j, Ideal.div (S j) D * Ideal.div (S j) D)) e) := by
  have hD0 : (0 : ℝ) < D := lt_of_lt_of_le one_pos hD
  by_cases h : ∃ j, S j = ⊤
  · obtain ⟨j, hj⟩ := h
    rw [norm_top S j hj, norm_top (fun j => Ideal.div (S j) D) j ?_, max_eq_left le_top, div_top, div_top]
    show Ideal.div (S j) D = ⊤
    rw [hj, Ideal.div_coe hD0.ne', EReal.top_mul_coe_of_pos (by positivity)]
  · push Not at h
    obtain ⟨s, rfl⟩ : ∃ s : Fin n → ℝ, S = fun j => (s j : EReal) :=
      ⟨fun j => (S j).toReal, funext fun j => (EReal.coe_toReal (h j) (hS j)).symm⟩
    have hsum : (0 : ℝ) ≤ ∑ j, s j * s j := Finset.sum_nonneg fun j _ => mul_self_nonneg _
    have hsc : ∑ j, s j * (1 / D) * (s j * (1 / D)) = (1 / D) ^ 2 * ∑ j, s j * s j := by
      rw [Finset.mul_sum]; exact Finset.sum_congr rfl fun j _ => by ring
    have hsq : Real.sqrt (∑ j, s j * (1 / D) * (s j * (1 / D))) = 1 / D * Real.sqrt (∑ j, s j * s j) := by
      rw [hsc, Real.sqrt_mul (by positivity), Real.sqrt_sq (by positivity)]
    simp only [Ideal.div_coe hD0.ne', ← EReal.coe_mul, coe_sum, Ideal.sqrt_coe] at hn ⊢
    have hsum' : (0 : ℝ) ≤ ∑ j, s j * (1 / D) * (s j * (1 / D)) := Finset.sum_nonneg fun j _ => mul_self_nonneg _
    rw [if_neg hsum'.not_gt, hsq] at hn ⊢
    rw [if_neg hsum.not_gt]
    set N := Real.sqrt (∑ j, s j * s j) with hN
    rcases hn with hn | hn
    · have hN0 : N = 0 := by
        have : 1 / D * N = 0 := by exact_mod_cast hn
        rcases mul_eq_zero.mp this with h' | h'
        · exact absurd h' (by positivity)
        · exact h'
      have hs : s i = 0 := by
        have h0 := (Real.sqrt_eq_zero hsum).mp hN0
        have := (Finset.sum_eq_zero_iff_of_nonneg (fun j _ => mul_self_nonneg (s j))).mp h0 i (Finset.mem_univ i)
        exact mul_self_eq_zero.mp this
      rw [hN0, hs, zero_mul, mul_zero]
    · have hn' : e ≤ 1 / D * N := by exact_mod_cast hn
      have hN0 : 0 ≤ N := Real.sqrt_nonneg _
      have hle : 1 / D * N ≤ N := by
        have : 1 / D ≤ 1 := by rw [div_le_one hD0]; exact hD
        nlinarith
      have hpos : 0 < 1 / D * N := lt_of_lt_of_le he hn'
      have hNpos : 0 < N := lt_of_lt_of_le hpos hle
      rw [max_eq_left (by exact_mod_cast hn'.trans hle), max_eq_left (by exact_mod_cast hn'),
        Ideal.div_coe hNpos.ne', Ideal.div_coe hpos.ne', ← EReal.coe_mul, ← EReal.coe_mul]
      congr 1
      field_simp

end Cert.Scalars

end
-- ==== Proof.Arrays.lean ====
/-
  The two passes' arrays, entry by entry, from the launched buffers.
-/
module

public import proofs.«01_k».proof.Proof.Run
public import proofs.«01_k».proof.Proof.Scalars
public import Idealize.ShloMosaic.Lib.Pointwise
public import Idealize.ShloMosaic.Lib.Tactic
public import Idealize.ShloMosaic.Lib.StableHlo.RunRead

@[expose] public section

set_option maxRecDepth 16384

noncomputable section

namespace Cert.KernelIdeal.Whole

open Cert.KernelIdeal Cert.KernelIdeal.Gen Idealize.ShloMosaic Idealize.ShloMosaic.TcCoe Idealize.ShloMosaic.StableHlo
open Cert.Scalars

variable {F : FTy → Type} [FloatOps F] [Named F]
variable (m : (ℓ : Loc nD τ sig) → Buf (Elt F) ℓ) (c : Dev nD)

/-! ## The host's arrays -/

/-- The rows, as the passes read them. -/
theorem in0 : at1 m c main_v0 = shapeCast S32768x1024 (m ((c.tc : Thread nD τ).loc main_arg0)) shapeCasts_S4x8192x1024_S32768x1024 := by
  simp only [at1, V1, V0, hostOps0, TRef.binary, TRef.nullary, TRef.ternary, TRef.unary, TRef.toBuf, TRef.ofBuf, cast_eq]; after_reads_simp; rfl

/-- The stored directions. -/
theorem in1 : at1 m c main_arg3 = m ((c.tc : Thread nD τ).loc main_arg3) := V1_of m c main_arg3 (by decide)

/-- The mask as numbers, one to a row. -/
theorem in2 : at1 m c main_v2 = shapeCast S512x1 (uitofp .f32 (m ((c.tc : Thread nD τ).loc main_arg5))) shapeCasts_S512_S512x1 := by
  simp only [at1, V1, V0, hostOps0, TRef.binary, TRef.nullary, TRef.ternary, TRef.unary, TRef.toBuf, TRef.ofBuf, cast_eq]; after_reads_simp; rfl

/-- The facilitations, one to a row. -/
theorem in3 : at1 m c main_v3 = shapeCast S512x1 (m ((c.tc : Thread nD τ).loc main_arg4)) shapeCasts_S512_S512x1 := by
  simp only [at1, V1, V0, hostOps0, TRef.binary, TRef.nullary, TRef.ternary, TRef.unary, TRef.toBuf, TRef.ofBuf, cast_eq]; after_reads_simp; rfl

/-- The gate's scale. -/
theorem in4 : at1 m c main_v4 = shapeCast S1x1 (m ((c.tc : Thread nD τ).loc main_arg1)) shapeCasts_S_S1x1 := by
  simp only [at1, V1, V0, hostOps0, TRef.binary, TRef.nullary, TRef.ternary, TRef.unary, TRef.toBuf, TRef.ofBuf, cast_eq]; after_reads_simp; rfl

/-- The sharpness. -/
theorem in5 : at1 m c main_v5 = shapeCast S1x1 (m ((c.tc : Thread nD τ).loc main_arg2)) shapeCasts_S_S1x1 := by
  simp only [at1, V1, V0, hostOps0, TRef.binary, TRef.nullary, TRef.ternary, TRef.unary, TRef.toBuf, TRef.ofBuf, cast_eq]; after_reads_simp; rfl

/-- The result is the second pass's array, reshaped. -/
theorem out_eq : W4 m c (Proc.devRef .tc main_v8) = shapeCast S4x8192x1024 (outArr m c) shapeCasts_S32768x1024_S4x8192x1024 := by
  simp only [W4, hostOps2, TRef.binary, TRef.nullary, TRef.ternary, TRef.unary, TRef.toBuf, TRef.ofBuf, cast_eq]; after_reads_simp
  simp only [W3, Function.update_self]; rfl

/-! ## The gate's array -/

/-- The last point of the first pass. -/
def last : Fin cfg0.N := ⟨31, by decide⟩

/-- The gate's array is what the last point of the first pass stores. -/
theorem gateArr_eq : gateArr m c = gateAt (at1 m) c last := by
  refine (dat0 (at1 m) c).arrAt_eq_of_after_last 6 last (by decide +kernel) _ fun j => ?_
  blk_simp
  rw [after0_6]

/-! ## The blocks -/

/-- The first pass reads the rows block by block and the other operands whole. -/
theorem idx0 : ∀ t : Fin grid0.N, win0_0.index t = ![t.val, 0] ∧ win0_1.index t = ![0, 0] ∧ win0_2.index t = ![0, 0] ∧ win0_3.index t = ![0, 0]
    ∧ win0_4.index t = ![0, 0] ∧ win0_5.index t = ![0, 0] := by decide +kernel

/-- The second pass reads and writes the rows block by block and the gate whole. -/
theorem idx1 : ∀ t : Fin grid1.N, win1_0.index t = ![t.val, 0] ∧ win1_1.index t = ![0, 0] ∧ win1_2.index t = ![t.val, 0] := by decide +kernel

/-- Row `y` of block `t` of the first pass is row `1024 t + y` of the array. -/
theorem blk0_0 (V) (t : Fin cfg0.N) (p : Fin 1024) (j : Fin 1024) :
    blk0 (F := F) V c 0 t (ix2 p j) = V c main_v0 (ix2 (⟨t.val * 1024 + p.val, by have := t.isLt; have : cfg0.N = 32 := N_0; omega⟩ : Fin 32768) j) := by
  blk_ext [blk0, idx0 t]

/-- Every point sees the stored directions whole. -/
theorem blk0_1 (V) (t : Fin cfg0.N) : blk0 (F := F) V c 1 t = V c main_arg3 := by
  funext y
  blk_ext [blk0, idx0 t]

/-- The mask whole. -/
theorem blk0_2 (V) (t : Fin cfg0.N) : blk0 (F := F) V c 2 t = V c main_v2 := by
  funext y
  blk_ext [blk0, idx0 t]

/-- The facilitations whole. -/
theorem blk0_3 (V) (t : Fin cfg0.N) : blk0 (F := F) V c 3 t = V c main_v3 := by
  funext y
  blk_ext [blk0, idx0 t]

/-- The gate's scale. -/
theorem blk0_4 (V) (t : Fin cfg0.N) : blk0 (F := F) V c 4 t = V c main_v4 := by
  funext y
  blk_ext [blk0, idx0 t]

/-- The sharpness. -/
theorem blk0_5 (V) (t : Fin cfg0.N) : blk0 (F := F) V c 5 t = V c main_v5 := by
  funext y
  blk_ext [blk0, idx0 t]

/-- Every point of the second pass sees the gate. -/
theorem blk1_1 (V) (t : Fin cfg1.N) : blk1 (F := F) V c 1 t = V c main_v6 := by
  funext y
  blk_ext [blk1, idx1 t]

/-! ## The second pass's array -/

/-- A point of the second pass stores the activation times the gate. -/
theorem pay_eq (x : Vec Ideal S1024x1024 .f32) (g : Ideal .f32) (j : S1024x1024.Idx) : k1_pay1 x g j = gelu (x j) * g := by
  pointwise [k1_pay1, gelu, id]
  rfl

/-- An entry of the result: the activation of an entry times the gate. -/
theorem outArr_eq (m : (ℓ : Loc nD τ sig) → Buf (Elt Ideal) ℓ) : outArr m c = fun i => gelu (at1 m c main_v0 i) * word (gateArr m c) := by
  refine (dat1 (at2 m) c).arrAt_eq_of_covers 2 _ (by decide +kernel) fun t hf y => ?_
  blk_simp
  rw [after1_2]
  have e1 : at2 m c main_v6 = gateArr m c := by simp only [at2, W2, Function.update_self]
  have e0 : at2 m c main_v0 = at1 m c main_v0 := W2_of m c main_v0 (by decide)
  have h0 : blk1 (at2 m) c 0 t y = at1 m c main_v0 ((win1_2.blk t).view.emb y) := by
    rw [← e0]
    blk_ext [blk1, idx1 t]
  exact (pay_eq _ _ y).trans (by rw [blk1_1, e1, h0])

end Cert.KernelIdeal.Whole

end
-- ==== Proof.Sums.lean ====
/-
  The first pass's running sums at the last point: the column sums of the activation.
-/
module

public import proofs.«01_k».proof.Proof.Arrays

@[expose] public section

set_option maxRecDepth 16384

noncomputable section

namespace Cert.KernelIdeal.Whole

open Cert.KernelIdeal Cert.KernelIdeal.Gen Idealize.ShloMosaic Idealize.ShloMosaic.TcCoe
open Cert.Scalars

variable (V : (c : Dev nD) → (b : Ref sig .tc) → Buf (Elt Ideal) ((c : Thread nD τ).loc b)) (c : Dev nD)

/-- A column's activation at a row number, zero past the last row. -/
def column (A : Vec Ideal S32768x1024 .f32) (j : Fin 1024) (r : ℕ) : EReal := if h : r < 32768 then gelu (A (ix2 ⟨r, h⟩ j)) else 0

/-- The first point stores its block's column sums. -/
theorem pay2_at (x : Vec Ideal S1024x1024 .f32) (j : Fin 1024) : k0_pay2 x (ix2 0 j) = ∑ p : Fin 1024, gelu (x (ix2 p j)) := by
  pointwise [k0_pay2, k0_pay1, gelu, id]
  rfl

/-- Every later point adds its block's column sums. -/
theorem pay3_at (x : Vec Ideal S1024x1024 .f32) (a : Vec Ideal S1x1024 .f32) (j : Fin 1024) :
    k0_pay3 x a (ix2 0 j) = a (ix2 0 j) + ∑ p : Fin 1024, gelu (x (ix2 p j)) := by
  pointwise [k0_pay3, k0_pay1, gelu, id]
  rfl

/-- A block's column sum, in the array's own row numbers. -/
theorem block_sum (t : Fin cfg0.N) (j : Fin 1024) :
    ∑ p : Fin 1024, gelu (blk0 V c 0 t (ix2 p j)) = ∑ p ∈ Finset.range 1024, column (V c main_v0) j (t.val * 1024 + p) := by
  rw [Finset.sum_range]
  refine Finset.sum_congr rfl fun p _ => ?_
  have ht : t.val < 32 := lt_of_lt_of_eq t.isLt N_0
  rw [blk0_0, column, dif_pos (by omega)]

/-- After point `n` the sums run over the first `n + 1` blocks of rows. -/
theorem acc_at (j : Fin 1024) : ∀ (n : ℕ) (hn : n < cfg0.N),
    acc V c n hn (ix2 0 j) = ∑ r ∈ Finset.range ((n + 1) * 1024), column (V c main_v0) j r
  | 0, hn => by
    rw [acc, pay2_at, block_sum]
    simp
  | n + 1, hn => by
    rw [acc, pay3_at, block_sum, acc_at j n, show (n + 1 + 1) * 1024 = (n + 1) * 1024 + 1024 by ring, Finset.sum_range_add]

/-- After the last point they are the column sums over all rows. -/
theorem acc_last (j : Fin 1024) : acc V c last.val last.isLt (ix2 0 j) = ∑ r : Fin 32768, gelu (V c main_v0 (ix2 r j)) := by
  rw [acc_at, show (last.val + 1) * 1024 = 32768 from rfl, Finset.sum_range]
  refine Finset.sum_congr rfl fun r _ => ?_
  rw [column, dif_pos r.isLt]

end Cert.KernelIdeal.Whole

end
-- ==== Proof.Sides.lean ====
/-
  The reference's similarities, and what the precondition says of them.
-/
module

public import proofs.«01_k».proof.Defs
public import proofs.«01_k».proof.Proof.Sums
public import proofs.«01_k».proof.Proof.RefVal
public import proofs.«01_k».proof.Proof.Gen.Pre_comparable

@[expose] public section

set_option maxRecDepth 16384

noncomputable section

namespace Cert.ReferenceIdeal.Whole

open Cert.ReferenceIdeal Cert.ReferenceIdeal.Gen Idealize.ShloMosaic Idealize.ShloMosaic.TcCoe
open Cert.Scalars

/-- The column sums of the activation. -/
def total (x : Arr Ideal S4x8192x1024 .f32) (j : Fin 1024) : EReal :=
  ∑ r : Fin 32768, gelu (shapeCast S32768x1024 x shapeCasts_S4x8192x1024_S32768x1024 (ix2 r j))

variable {x : Arr Ideal S4x8192x1024 .f32}

/-- The reference's activation is the kernel's, away from -∞. -/
theorem act_at (hx : ∀ i, x i ≠ ⊥) (i : S4x8192x1024.Idx) : act x i = gelu (x i) := by
  rw [← gelu_eq (hx i)]
  pointwise [act]

/-- No column sum is -∞. -/
theorem total_ne_bot (hx : ∀ i, x i ≠ ⊥) (j : Fin 1024) : total x j ≠ ⊥ :=
  Finset.sum_induction _ (· ≠ ⊥) (fun _ _ ha hb h => (EReal.add_eq_bot_iff.mp h).elim ha hb) EReal.zero_ne_bot fun r _ => gelu_ne_bot (hx _)

/-- The mean is the column sum over the number of rows. -/
theorem mean_at (hx : ∀ i, x i ≠ ⊥) (j : Fin 1024) : mean (act x) (ix1 j) = Ideal.div (total x j) ((32768 : ℝ) : EReal) := by
  rw [show act x = fun i => gelu (x i) from funext (act_at hx)]
  pointwise [mean, total]
  rw [rows_word]

/-- The norm, entry by entry. -/
theorem norm_at (m : Arr Ideal S1024 .f32) (i : S_.Idx) : norm m i = Ideal.sqrt (∑ j : Fin 1024, m (ix1 j) * m (ix1 j)) := by
  pointwise [norm]

/-- What the precondition says: no entry is -∞, and the mean's norm is 0 or not below the threshold. -/
theorem comparable_at {x : Arr Ideal S4x8192x1024 .f32} {a1 a2 : Arr Ideal S_ .f32} {b : Arr Ideal S512x1024 .f32} {v : Arr Ideal S512 .f32} {k : Arr Ideal S512 .i1}
    (h1 : (Cert.Pre_comparable.fn (F := Ideal) x a1 a2 b v k).1 = fun _ => 1#1)
    (h2 : (Cert.Pre_comparable.fn (F := Ideal) x a1 a2 b v k).2 = fun _ => 1#1) :
    (∀ i, x i ≠ ⊥) ∧ (norm (mean (act x)) ix0 = 0 ∨ Ideal.ofBits .f32 0x2B8CBCCC#32 ≤ norm (mean (act x)) ix0) := by
  have e : (Cert.Pre_comparable.fn (F := Ideal) x a1 a2 b v k) = (cmpf (F := Ideal) (φ := .f32) .ogt x (broadcastInDim S4x8192x1024 ![] bcast_S_S4x8192x1024 (constant S_ .f32 0xFF800000#32)),
    ori (cmpf .oeq (norm (mean (act x))) (constant S_ .f32 0x00000000#32)) (cmpf .oge (norm (mean (act x))) (constant S_ .f32 0x2B8CBCCC#32))) := by
    rfl
  rw [e] at h1 h2
  generalize norm (mean (act x)) = n at h2 ⊢
  refine ⟨fun i => ?_, ?_⟩
  · have h := congrFun h1 i
    dsimp only at h
    revert h
    pointwise []
    rw [bot_word]
    intro h hi
    rw [hi] at h
    simp at h
  · have h := congrFun h2 ix0
    dsimp only at h
    revert h
    pointwise []
    by_cases ha : n ix0 = 0
    · exact fun _ => .inl ha
    by_cases hb : Ideal.ofBits .f32 0x2B8CBCCC#32 ≤ n ix0
    · exact fun _ => .inr hb
    · rw [decide_eq_false ha, decide_eq_false hb]
      exact fun h => absurd h (by decide)

/-- A direction's similarity, from the sums alone. -/
theorem sims_at (hx : ∀ i, x i ≠ ⊥)
    (hn : norm (mean (act x)) ix0 = 0 ∨ Ideal.ofBits .f32 0x2B8CBCCC#32 ≤ norm (mean (act x)) ix0)
    (b : Arr Ideal S512x1024 .f32) (i : Fin 512) :
    sims b (unit (mean (act x))) (ix1 i) = ∑ j : Fin 1024, b (ix2 i j) * Ideal.div (total x j) (max (Ideal.sqrt (∑ l, total x l * total x l)) (Ideal.ofBits .f32 0x2B8CBCCC#32)) := by
  obtain ⟨e, he, hw⟩ := eps_word
  rw [hw] at hn ⊢
  rw [norm_at] at hn
  simp only [mean_at hx] at hn
  have hu : ∀ j : Fin 1024, unit (mean (act x)) (ix1 j) = Ideal.div (total x j) (max (Ideal.sqrt (∑ l, total x l * total x l)) e) := fun j => by
    rw [unit_eq (total x) (total_ne_bot hx) e 32768 he (by norm_num) hn j, ← mean_at hx]
    have := norm_at (mean (act x)) ix0
    simp only [mean_at hx] at this
    rw [← this, ← hw]
    generalize mean (act x) = q
    pointwise [unit]
  generalize unit (mean (act x)) = q at hu ⊢
  pointwise [sims]
  exact Finset.sum_congr rfl fun j _ => by rw [hu]

end Cert.ReferenceIdeal.Whole

end
-- ==== Proof.Value.lean ====
/-
  The kernel's result is the reference's.
-/
module

public import proofs.«01_k».proof.Proof.Gate
public import proofs.«01_k».proof.Proof.Sides

@[expose] public section

set_option maxRecDepth 16384

noncomputable section

namespace Cert.KernelIdeal.Whole

open Cert.KernelIdeal Cert.KernelIdeal.Gen Idealize.ShloMosaic Idealize.ShloMosaic.TcCoe
open Cert.Scalars Cert.ReferenceIdeal.Whole

/-- The kernel's similarities, from the sums. -/
theorem pay5_at (s : Vec Ideal S1x1024 .f32) (b : Vec Ideal S512x1024 .f32) (i : Fin 512) :
    k0_pay5 s b (ix2 i 0) = ∑ j : Fin 1024, b (ix2 i j)
      * Ideal.div (s (ix2 0 j)) (max (Ideal.sqrt (∑ l : Fin 1024, s (ix2 0 l) * s (ix2 0 l))) (Ideal.ofBits .f32 0x2B8CBCCC#32)) := by
  pointwise [k0_pay5, id]
  simp only [Finset.univ_unique, Finset.sum_singleton]
  rfl

variable (m : (ℓ : Loc nD τ sig) → Buf (Elt Ideal) ℓ) (c : Dev nD)

/-- The first pass's sums are the reference's column sums. -/
theorem sums_at (j : Fin 1024) : acc (at1 m) c last.val last.isLt (ix2 0 j) = total (m ((c.tc : Thread nD τ).loc main_arg0)) j := by
  rw [acc_last, in0]
  rfl

/-- The mask as the kernel reads it: 1 where it is set, 0 elsewhere. -/
theorem maskf_at (i : Fin 512) : blk0 (at1 m) c 2 last (ix2 i 0) = if m ((c.tc : Thread nD τ).loc main_arg5) (ix1 i) = 1#1 then (1 : EReal) else 0 := by
  rw [blk0_2, in2]
  pointwise []
  rcases BitVec.eq_zero_or_eq_one (m ((c.tc : Thread nD τ).loc main_arg5) (ix1 i)) with h | h <;> rw [h]
  · exact (show ((((0#1 : BitVec 1).toNat : ℝ) : EReal)) = _ by rw [if_neg (show ¬(0#1 : BitVec 1) = 1#1 by decide)]; simp)
  · exact (show ((((1#1 : BitVec 1).toNat : ℝ) : EReal)) = _ by simp)

/-- The facilitations as the kernel reads them. -/
theorem facil_at (i : Fin 512) : blk0 (at1 m) c 3 last (ix2 i 0) = m ((c.tc : Thread nD τ).loc main_arg4) (ix1 i) := by
  rw [blk0_3, in3]
  pointwise []

/-- The gate's scale as the kernel reads it. -/
theorem scale4_at : word (blk0 (at1 m) c 4 last) = m ((c.tc : Thread nD τ).loc main_arg1) ix0 := by
  rw [blk0_4, in4, word]
  pointwise []

/-- The sharpness as the kernel reads it. -/
theorem scale5_at : word (blk0 (at1 m) c 5 last) = m ((c.tc : Thread nD τ).loc main_arg2) ix0 := by
  rw [blk0_5, in5, word]
  pointwise []

/-- On inputs that are `comparable`, the kernel's result array is the reference's function of the arguments. -/
theorem value (hm : Cert.Pre_KernelIdeal_comparable m) :
    W4 m c (Proc.devRef .tc main_v8)
      = Cert.ReferenceIdeal.Whole.result (F := Ideal) (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4))
          (m ((c.tc : Thread nD τ).loc main_arg5)) := by
  obtain ⟨hx, hn⟩ := comparable_at (hm c).1 (hm c).2
  have hs : ∀ i : Fin 512, k0_pay5 (acc (at1 m) c last.val last.isLt) (blk0 (at1 m) c 1 last) (ix2 i 0)
      = sims (m ((c.tc : Thread nD τ).loc main_arg3)) (Cert.ReferenceIdeal.Whole.unit (mean (act (m ((c.tc : Thread nD τ).loc main_arg0))))) (ix1 i) := fun i => by
    rw [pay5_at, sims_at hx hn, blk0_1, in1]
    simp only [sums_at]
  rw [out_eq, outArr_eq, gateArr_eq]
  unfold result
  have ha : act (m ((c.tc : Thread nD τ).loc main_arg0)) = fun i => gelu (m ((c.tc : Thread nD τ).loc main_arg0) i) := funext (act_at hx)
  generalize sims (m ((c.tc : Thread nD τ).loc main_arg3)) (Cert.ReferenceIdeal.Whole.unit (mean (act (m ((c.tc : Thread nD τ).loc main_arg0))))) = sm at hs ⊢
  obtain ⟨i₀, he, h₀⟩ := argmax_first (masked 0xBF800000#32 (m ((c.tc : Thread nD τ).loc main_arg5)) sm)
  rw [he, ha, in0]
  have hg := gate_at hs (maskf_at m c) h₀ (facil_at m c) _ _ _ _ ix0 (scale4_at m c) (scale5_at m c)
  funext i
  generalize Cert.ReferenceIdeal.Whole.gate (F := Ideal) _ _ _ _ = g at hg ⊢
  have hw : word (gateAt (at1 m) c last) = g ix0 := hg
  rw [hw]
  exact (congrArg (fun y => gelu y * g ix0) (congrFun (shapeCast_shapeCast (m ((c.tc : Thread nD τ).loc main_arg0)) _ _) i)).trans
    (congrArg (fun k => gelu (m ((c.tc : Thread nD τ).loc main_arg0) i) * g k) (ix0_eta _))

end Cert.KernelIdeal.Whole

end
-- ==== Proof.lean ====
/-
  The claims, assembled: the kernel, its idealized form and the reference run, terminate and leave their arguments and
  every semaphore as they were; naming the constant changes no bit of the kernel; and on `comparable` inputs the
  idealized kernel's result is the reference's.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.Pre_comparable
public import proofs.«01_k».proof.Proof.Run
public import proofs.«01_k».proof.Proof.Bits.Run
public import proofs.«01_k».proof.Proof.RefRun
public import proofs.«01_k».proof.Proof.Value
public import Idealize.ShloMosaic.Adequacy
public import Idealize.ShloMosaic.Init

@[expose] public section

noncomputable section

namespace Cert.Proof

open Idealize.ShloMosaic Idealize.SL.Sem Cert.Kernel

/-- The kernel's frame: its run, read at the arguments. -/
theorem frame_kernel : Cert.quiescent_Kernel := fun m g _ =>
  (θ_run _ _ _).mono (fun _ h => ⟨fun c => (h.1 c).2, h.2⟩) (Cert.Kernel.Whole.run_all m g)

/-- The idealized kernel's frame. -/
theorem frame_ideal : Cert.quiescent_KernelIdeal := fun m g _ =>
  (θ_run _ _ _).mono (fun _ h => ⟨fun c => (h.1 c).2, h.2⟩) (Cert.KernelIdeal.Whole.run_all m g)

/-- The reference's frame. -/
theorem frame_reference : Cert.quiescent_ReferenceIdeal := fun m g _ =>
  (θ_run _ _ _).mono (fun _ h => ⟨fun c => (h.1 c).2, h.2⟩) (Cert.ReferenceIdeal.Whole.run_all m g)

/-- The named constant's word in the kernel is its rational's rounding. -/
theorem preserved : Cert.preserves_Kernel_KernelIdeal :=
  IdealRules.named_const.statement Cert.KernelIdeal.κ "c1" .f32 0x3D122279#32 _ rfl

/-- On comparable inputs the idealized kernel and the reference end with equal results. -/
theorem equal : Cert.algebraic_KernelIdeal_ReferenceIdeal_pre_comparable := by
  intro m g m' g' hm hargs
  refine ⟨fun c => Cert.KernelIdeal.Whole.W4 m c (Proc.devRef .tc Cert.KernelIdeal.main_v8), ?_, ?_⟩
  · exact (θ_run _ _ _).mono (fun _ h c => h.1 c) (Cert.KernelIdeal.Whole.run_all m g)
  · refine (θ_run _ _ _).mono (fun _ h c => ⟨(h.1 c).1.trans ?_, (h.1 c).2⟩) (Cert.ReferenceIdeal.Whole.run_all m' g')
    obtain ⟨h0, h1, h2, h3, h4, h5⟩ := hargs c
    rw [h0, h1, h2, h3, h4, h5]
    exact (Cert.KernelIdeal.Whole.value m c hm).symm

theorem claim : Cert.Claim := ⟨Cert.Kernel.Gen.facts, Cert.KernelIdeal.Gen.facts, Cert.ReferenceIdeal.Gen.facts, Cert.Pre_comparable.Gen.facts, frame_kernel, frame_ideal, fun m g _ => frame_ideal m g trivial,
  frame_reference, fun m g _ => frame_reference m g trivial, preserved, equal⟩

end Cert.Proof

end
